-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S128x512 : Shape := ⟨2, ![128, 512]⟩
abbrev S16 : Shape := ⟨1, ![16]⟩
abbrev S_ : Shape := ⟨0, ![]⟩

abbrev nBuf : Table → Nat
  | .hbm => 2
  | .local .scVector .vmem => 1
  | _ => 0

abbrev bufTy : (tb : Table) → Fin (nBuf tb) → BufTy
  | .hbm, ⟨0, _⟩ => ⟨S4096x8192, .f32⟩
  | .hbm, ⟨1, _⟩ => ⟨S4096x8192, .f32⟩
  | .local .scVector .vmem, ⟨0, _⟩ => ⟨S128x512, .f32⟩
  | _, _ => ⟨S4096x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_69_r0 : BitVec 32 := 0#32
  ![v2.toNat, 0]
@[reducible] def k0_t1_loop : Scf.Loop 32 :=
  let c0_i32_7 : BitVec 32 := 0#32
  let c512_i32 : BitVec 32 := 512#32
  let v28 : BitVec 32 := Scalar.addi c0_i32_7 c512_i32
  let c1_i32 : BitVec 32 := 1#32
  ⟨c0_i32_7, v28, c1_i32⟩

def k0_chk1 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx1_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v5, v60] : Fin 2 → IVec S16 32) a x).toNat < S128x512.size a := fun v5 v7 v9 v11 v13 v15 v17 v19 v60 k0_hw1 => k0_hw1.1
theorem k0_idx2_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v5, v60] : Fin 2 → IVec S16 32) a x).toNat < S128x512.size a := fun v5 v7 v9 v11 v13 v15 v17 v19 v60 k0_hw1 => k0_hw1.2.1
theorem k0_idx3_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v7, v60] : Fin 2 → IVec S16 32) a x).toNat < S128x512.size a := fun v5 v7 v9 v11 v13 v15 v17 v19 v60 k0_hw1 => k0_hw1.2.2.1
theorem k0_idx4_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v7, v60] : Fin 2 → IVec S16 32) a x).toNat < S128x512.size a := fun v5 v7 v9 v11 v13 v15 v17 v19 v60 k0_hw1 => k0_hw1.2.2.2.1
theorem k0_idx5_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v9, v60] : Fin 2 → IVec S16 32) a x).toNat < S128x512.size a := fun v5 v7 v9 v11 v13 v15 v17 v19 v60 k0_hw1 => k0_hw1.2.2.2.2.1
theorem k0_idx6_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v9, v60] : Fin 2 → IVec S16 32) a x).toNat < S128x512.size a := fun v5 v7 v9 v11 v13 v15 v17 v19 v60 k0_hw1 => k0_hw1.2.2.2.2.2.1
theorem k0_idx7_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v11, v60] : Fin 2 → IVec S16 32) a x).toNat < S128x512.size a := fun v5 v7 v9 v11 v13 v15 v17 v19 v60 k0_hw1 => k0_hw1.2.2.2.2.2.2.1
theorem k0_idx8_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v11, v60] : Fin 2 → IVec S16 32) a x).toNat < S128x512.size a := fun v5 v7 v9 v11 v13 v15 v17 v19 v60 k0_hw1 => k0_hw1.2.2.2.2.2.2.2.1
theorem k0_idx9_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v13, v60] : Fin 2 → IVec S16 32) a x).toNat < S128x512.size a := fun v5 v7 v9 v11 v13 v15 v17 v19 v60 k0_hw1 => k0_hw1.2.2.2.2.2.2.2.2.1
theorem k0_idx10_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v13, v60] : Fin 2 → IVec S16 32) a x).toNat < S128x512.size a := fun v5 v7 v9 v11 v13 v15 v17 v19 v60 k0_hw1 => k0_hw1.2.2.2.2.2.2.2.2.2.1
theorem k0_idx11_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v15, v60] : Fin 2 → IVec S16 32) a x).toNat < S128x512.size a := fun v5 v7 v9 v11 v13 v15 v17 v19 v60 k0_hw1 => k0_hw1.2.2.2.2.2.2.2.2.2.2.1
theorem k0_idx12_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v15, v60] : Fin 2 → IVec S16 32) a x).toNat < S128x512.size a := fun v5 v7 v9 v11 v13 v15 v17 v19 v60 k0_hw1 => k0_hw1.2.2.2.2.2.2.2.2.2.2.2.1
theorem k0_idx13_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v17, v60] : Fin 2 → IVec S16 32) a x).toNat < S128x512.size a := fun v5 v7 v9 v11 v13 v15 v17 v19 v60 k0_hw1 => k0_hw1.2.2.2.2.2.2.2.2.2.2.2.2.1
theorem k0_idx14_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v17, v60] : Fin 2 → IVec S16 32) a x).toNat < S128x512.size a := fun v5 v7 v9 v11 v13 v15 v17 v19 v60 k0_hw1 => k0_hw1.2.2.2.2.2.2.2.2.2.2.2.2.2.1
theorem k0_idx15_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v19, v60] : Fin 2 → IVec S16 32) a x).toNat < S128x512.size a := fun v5 v7 v9 v11 v13 v15 v17 v19 v60 k0_hw1 => k0_hw1.2.2.2.2.2.2.2.2.2.2.2.2.2.2.1
theorem k0_idx16_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw1 : k0_chk1 v5 v7 v9 v11 v13 v15 v17 v19 v60), ∀ a x, ((![v19, v60] : Fin 2 → IVec S16 32) a x).toNat < S128x512.size a := fun v5 v7 v9 v11 v13 v15 v17 v19 v60 k0_hw1 => k0_hw1.2.2.2.2.2.2.2.2.2.2.2.2.2.2.2
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_69_r1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c512_i32_69_r2 : BitVec 32 := 512#32
  ![v2.toNat, 512]
@[reducible] def k0_t2_loop : Scf.Loop 32 :=
  let c0_i32_9 : BitVec 32 := 0#32
  let c512_i32_10 : BitVec 32 := 512#32
  let v30 : BitVec 32 := Scalar.addi c0_i32_9 c512_i32_10
  let c1_i32_11 : BitVec 32 := 1#32
  ⟨c0_i32_9, v30, c1_i32_11⟩

def k0_chk2 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx17_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v5, v60] : Fin 2 → IVec S16 32) a x).toNat < S128x512.size a := fun v5 v7 v9 v11 v13 v15 v17 v19 v60 k0_hw2 => k0_hw2.1
theorem k0_idx18_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v5, v60] : Fin 2 → IVec S16 32) a x).toNat < S128x512.size a := fun v5 v7 v9 v11 v13 v15 v17 v19 v60 k0_hw2 => k0_hw2.2.1
theorem k0_idx19_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v7, v60] : Fin 2 → IVec S16 32) a x).toNat < S128x512.size a := fun v5 v7 v9 v11 v13 v15 v17 v19 v60 k0_hw2 => k0_hw2.2.2.1
theorem k0_idx20_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v7, v60] : Fin 2 → IVec S16 32) a x).toNat < S128x512.size a := fun v5 v7 v9 v11 v13 v15 v17 v19 v60 k0_hw2 => k0_hw2.2.2.2.1
theorem k0_idx21_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v9, v60] : Fin 2 → IVec S16 32) a x).toNat < S128x512.size a := fun v5 v7 v9 v11 v13 v15 v17 v19 v60 k0_hw2 => k0_hw2.2.2.2.2.1
theorem k0_idx22_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v9, v60] : Fin 2 → IVec S16 32) a x).toNat < S128x512.size a := fun v5 v7 v9 v11 v13 v15 v17 v19 v60 k0_hw2 => k0_hw2.2.2.2.2.2.1
theorem k0_idx23_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v11, v60] : Fin 2 → IVec S16 32) a x).toNat < S128x512.size a := fun v5 v7 v9 v11 v13 v15 v17 v19 v60 k0_hw2 => k0_hw2.2.2.2.2.2.2.1
theorem k0_idx24_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v11, v60] : Fin 2 → IVec S16 32) a x).toNat < S128x512.size a := fun v5 v7 v9 v11 v13 v15 v17 v19 v60 k0_hw2 => k0_hw2.2.2.2.2.2.2.2.1
theorem k0_idx25_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v13, v60] : Fin 2 → IVec S16 32) a x).toNat < S128x512.size a := fun v5 v7 v9 v11 v13 v15 v17 v19 v60 k0_hw2 => k0_hw2.2.2.2.2.2.2.2.2.1
theorem k0_idx26_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v13, v60] : Fin 2 → IVec S16 32) a x).toNat < S128x512.size a := fun v5 v7 v9 v11 v13 v15 v17 v19 v60 k0_hw2 => k0_hw2.2.2.2.2.2.2.2.2.2.1
theorem k0_idx27_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v15, v60] : Fin 2 → IVec S16 32) a x).toNat < S128x512.size a := fun v5 v7 v9 v11 v13 v15 v17 v19 v60 k0_hw2 => k0_hw2.2.2.2.2.2.2.2.2.2.2.1
theorem k0_idx28_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v15, v60] : Fin 2 → IVec S16 32) a x).toNat < S128x512.size a := fun v5 v7 v9 v11 v13 v15 v17 v19 v60 k0_hw2 => k0_hw2.2.2.2.2.2.2.2.2.2.2.2.1
theorem k0_idx29_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v17, v60] : Fin 2 → IVec S16 32) a x).toNat < S128x512.size a := fun v5 v7 v9 v11 v13 v15 v17 v19 v60 k0_hw2 => k0_hw2.2.2.2.2.2.2.2.2.2.2.2.2.1
theorem k0_idx30_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v17, v60] : Fin 2 → IVec S16 32) a x).toNat < S128x512.size a := fun v5 v7 v9 v11 v13 v15 v17 v19 v60 k0_hw2 => k0_hw2.2.2.2.2.2.2.2.2.2.2.2.2.2.1
theorem k0_idx31_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v19, v60] : Fin 2 → IVec S16 32) a x).toNat < S128x512.size a := fun v5 v7 v9 v11 v13 v15 v17 v19 v60 k0_hw2 => k0_hw2.2.2.2.2.2.2.2.2.2.2.2.2.2.2.1
theorem k0_idx32_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw2 : k0_chk2 v5 v7 v9 v11 v13 v15 v17 v19 v60), ∀ a x, ((![v19, v60] : Fin 2 → IVec S16 32) a x).toNat < S128x512.size a := fun v5 v7 v9 v11 v13 v15 v17 v19 v60 k0_hw2 => k0_hw2.2.2.2.2.2.2.2.2.2.2.2.2.2.2.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1024_i32_r4 : BitVec 32 := 1024#32
  ![v2.toNat, 1024]
@[reducible] def k0_t3_loop : Scf.Loop 32 :=
  let c0_i32_13 : BitVec 32 := 0#32
  let c512_i32_14 : BitVec 32 := 512#32
  let v32 : BitVec 32 := Scalar.addi c0_i32_13 c512_i32_14
  let c1_i32_15 : BitVec 32 := 1#32
  ⟨c0_i32_13, v32, c1_i32_15⟩

def k0_chk3 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx33_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v5, v60] : Fin 2 → IVec S16 32) a x).toNat < S128x512.size a := fun v5 v7 v9 v11 v13 v15 v17 v19 v60 k0_hw3 => k0_hw3.1
theorem k0_idx34_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v5, v60] : Fin 2 → IVec S16 32) a x).toNat < S128x512.size a := fun v5 v7 v9 v11 v13 v15 v17 v19 v60 k0_hw3 => k0_hw3.2.1
theorem k0_idx35_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v7, v60] : Fin 2 → IVec S16 32) a x).toNat < S128x512.size a := fun v5 v7 v9 v11 v13 v15 v17 v19 v60 k0_hw3 => k0_hw3.2.2.1
theorem k0_idx36_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v7, v60] : Fin 2 → IVec S16 32) a x).toNat < S128x512.size a := fun v5 v7 v9 v11 v13 v15 v17 v19 v60 k0_hw3 => k0_hw3.2.2.2.1
theorem k0_idx37_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v9, v60] : Fin 2 → IVec S16 32) a x).toNat < S128x512.size a := fun v5 v7 v9 v11 v13 v15 v17 v19 v60 k0_hw3 => k0_hw3.2.2.2.2.1
theorem k0_idx38_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v9, v60] : Fin 2 → IVec S16 32) a x).toNat < S128x512.size a := fun v5 v7 v9 v11 v13 v15 v17 v19 v60 k0_hw3 => k0_hw3.2.2.2.2.2.1
theorem k0_idx39_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v11, v60] : Fin 2 → IVec S16 32) a x).toNat < S128x512.size a := fun v5 v7 v9 v11 v13 v15 v17 v19 v60 k0_hw3 => k0_hw3.2.2.2.2.2.2.1
theorem k0_idx40_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v11, v60] : Fin 2 → IVec S16 32) a x).toNat < S128x512.size a := fun v5 v7 v9 v11 v13 v15 v17 v19 v60 k0_hw3 => k0_hw3.2.2.2.2.2.2.2.1
theorem k0_idx41_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v13, v60] : Fin 2 → IVec S16 32) a x).toNat < S128x512.size a := fun v5 v7 v9 v11 v13 v15 v17 v19 v60 k0_hw3 => k0_hw3.2.2.2.2.2.2.2.2.1
theorem k0_idx42_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v13, v60] : Fin 2 → IVec S16 32) a x).toNat < S128x512.size a := fun v5 v7 v9 v11 v13 v15 v17 v19 v60 k0_hw3 => k0_hw3.2.2.2.2.2.2.2.2.2.1
theorem k0_idx43_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v15, v60] : Fin 2 → IVec S16 32) a x).toNat < S128x512.size a := fun v5 v7 v9 v11 v13 v15 v17 v19 v60 k0_hw3 => k0_hw3.2.2.2.2.2.2.2.2.2.2.1
theorem k0_idx44_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v15, v60] : Fin 2 → IVec S16 32) a x).toNat < S128x512.size a := fun v5 v7 v9 v11 v13 v15 v17 v19 v60 k0_hw3 => k0_hw3.2.2.2.2.2.2.2.2.2.2.2.1
theorem k0_idx45_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v17, v60] : Fin 2 → IVec S16 32) a x).toNat < S128x512.size a := fun v5 v7 v9 v11 v13 v15 v17 v19 v60 k0_hw3 => k0_hw3.2.2.2.2.2.2.2.2.2.2.2.2.1
theorem k0_idx46_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v17, v60] : Fin 2 → IVec S16 32) a x).toNat < S128x512.size a := fun v5 v7 v9 v11 v13 v15 v17 v19 v60 k0_hw3 => k0_hw3.2.2.2.2.2.2.2.2.2.2.2.2.2.1
theorem k0_idx47_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v19, v60] : Fin 2 → IVec S16 32) a x).toNat < S128x512.size a := fun v5 v7 v9 v11 v13 v15 v17 v19 v60 k0_hw3 => k0_hw3.2.2.2.2.2.2.2.2.2.2.2.2.2.2.1
theorem k0_idx48_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw3 : k0_chk3 v5 v7 v9 v11 v13 v15 v17 v19 v60), ∀ a x, ((![v19, v60] : Fin 2 → IVec S16 32) a x).toNat < S128x512.size a := fun v5 v7 v9 v11 v13 v15 v17 v19 v60 k0_hw3 => k0_hw3.2.2.2.2.2.2.2.2.2.2.2.2.2.2.2
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1536_i32_r6 : BitVec 32 := 1536#32
  ![v2.toNat, 1536]
@[reducible] def k0_t4_loop : Scf.Loop 32 :=
  let c0_i32_17 : BitVec 32 := 0#32
  let c512_i32_18 : BitVec 32 := 512#32
  let v34 : BitVec 32 := Scalar.addi c0_i32_17 c512_i32_18
  let c1_i32_19 : BitVec 32 := 1#32
  ⟨c0_i32_17, v34, c1_i32_19⟩

def k0_chk4 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx49_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v5, v60] : Fin 2 → IVec S16 32) a x).toNat < S128x512.size a := fun v5 v7 v9 v11 v13 v15 v17 v19 v60 k0_hw4 => k0_hw4.1
theorem k0_idx50_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v5, v60] : Fin 2 → IVec S16 32) a x).toNat < S128x512.size a := fun v5 v7 v9 v11 v13 v15 v17 v19 v60 k0_hw4 => k0_hw4.2.1
theorem k0_idx51_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v7, v60] : Fin 2 → IVec S16 32) a x).toNat < S128x512.size a := fun v5 v7 v9 v11 v13 v15 v17 v19 v60 k0_hw4 => k0_hw4.2.2.1
theorem k0_idx52_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v7, v60] : Fin 2 → IVec S16 32) a x).toNat < S128x512.size a := fun v5 v7 v9 v11 v13 v15 v17 v19 v60 k0_hw4 => k0_hw4.2.2.2.1
theorem k0_idx53_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v9, v60] : Fin 2 → IVec S16 32) a x).toNat < S128x512.size a := fun v5 v7 v9 v11 v13 v15 v17 v19 v60 k0_hw4 => k0_hw4.2.2.2.2.1
theorem k0_idx54_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v9, v60] : Fin 2 → IVec S16 32) a x).toNat < S128x512.size a := fun v5 v7 v9 v11 v13 v15 v17 v19 v60 k0_hw4 => k0_hw4.2.2.2.2.2.1
theorem k0_idx55_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v11, v60] : Fin 2 → IVec S16 32) a x).toNat < S128x512.size a := fun v5 v7 v9 v11 v13 v15 v17 v19 v60 k0_hw4 => k0_hw4.2.2.2.2.2.2.1
theorem k0_idx56_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v11, v60] : Fin 2 → IVec S16 32) a x).toNat < S128x512.size a := fun v5 v7 v9 v11 v13 v15 v17 v19 v60 k0_hw4 => k0_hw4.2.2.2.2.2.2.2.1
theorem k0_idx57_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v13, v60] : Fin 2 → IVec S16 32) a x).toNat < S128x512.size a := fun v5 v7 v9 v11 v13 v15 v17 v19 v60 k0_hw4 => k0_hw4.2.2.2.2.2.2.2.2.1
theorem k0_idx58_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v13, v60] : Fin 2 → IVec S16 32) a x).toNat < S128x512.size a := fun v5 v7 v9 v11 v13 v15 v17 v19 v60 k0_hw4 => k0_hw4.2.2.2.2.2.2.2.2.2.1
theorem k0_idx59_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v15, v60] : Fin 2 → IVec S16 32) a x).toNat < S128x512.size a := fun v5 v7 v9 v11 v13 v15 v17 v19 v60 k0_hw4 => k0_hw4.2.2.2.2.2.2.2.2.2.2.1
theorem k0_idx60_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v15, v60] : Fin 2 → IVec S16 32) a x).toNat < S128x512.size a := fun v5 v7 v9 v11 v13 v15 v17 v19 v60 k0_hw4 => k0_hw4.2.2.2.2.2.2.2.2.2.2.2.1
theorem k0_idx61_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v17, v60] : Fin 2 → IVec S16 32) a x).toNat < S128x512.size a := fun v5 v7 v9 v11 v13 v15 v17 v19 v60 k0_hw4 => k0_hw4.2.2.2.2.2.2.2.2.2.2.2.2.1
theorem k0_idx62_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v17, v60] : Fin 2 → IVec S16 32) a x).toNat < S128x512.size a := fun v5 v7 v9 v11 v13 v15 v17 v19 v60 k0_hw4 => k0_hw4.2.2.2.2.2.2.2.2.2.2.2.2.2.1
theorem k0_idx63_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v19, v60] : Fin 2 → IVec S16 32) a x).toNat < S128x512.size a := fun v5 v7 v9 v11 v13 v15 v17 v19 v60 k0_hw4 => k0_hw4.2.2.2.2.2.2.2.2.2.2.2.2.2.2.1
theorem k0_idx64_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw4 : k0_chk4 v5 v7 v9 v11 v13 v15 v17 v19 v60), ∀ a x, ((![v19, v60] : Fin 2 → IVec S16 32) a x).toNat < S128x512.size a := fun v5 v7 v9 v11 v13 v15 v17 v19 v60 k0_hw4 => k0_hw4.2.2.2.2.2.2.2.2.2.2.2.2.2.2.2
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2048_i32_r8 : BitVec 32 := 2048#32
  ![v2.toNat, 2048]
@[reducible] def k0_t5_loop : Scf.Loop 32 :=
  let c0_i32_21 : BitVec 32 := 0#32
  let c512_i32_22 : BitVec 32 := 512#32
  let v36 : BitVec 32 := Scalar.addi c0_i32_21 c512_i32_22
  let c1_i32_23 : BitVec 32 := 1#32
  ⟨c0_i32_21, v36, c1_i32_23⟩

def k0_chk5 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx65_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v5, v60] : Fin 2 → IVec S16 32) a x).toNat < S128x512.size a := fun v5 v7 v9 v11 v13 v15 v17 v19 v60 k0_hw5 => k0_hw5.1
theorem k0_idx66_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v5, v60] : Fin 2 → IVec S16 32) a x).toNat < S128x512.size a := fun v5 v7 v9 v11 v13 v15 v17 v19 v60 k0_hw5 => k0_hw5.2.1
theorem k0_idx67_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v7, v60] : Fin 2 → IVec S16 32) a x).toNat < S128x512.size a := fun v5 v7 v9 v11 v13 v15 v17 v19 v60 k0_hw5 => k0_hw5.2.2.1
theorem k0_idx68_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v7, v60] : Fin 2 → IVec S16 32) a x).toNat < S128x512.size a := fun v5 v7 v9 v11 v13 v15 v17 v19 v60 k0_hw5 => k0_hw5.2.2.2.1
theorem k0_idx69_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v9, v60] : Fin 2 → IVec S16 32) a x).toNat < S128x512.size a := fun v5 v7 v9 v11 v13 v15 v17 v19 v60 k0_hw5 => k0_hw5.2.2.2.2.1
theorem k0_idx70_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v9, v60] : Fin 2 → IVec S16 32) a x).toNat < S128x512.size a := fun v5 v7 v9 v11 v13 v15 v17 v19 v60 k0_hw5 => k0_hw5.2.2.2.2.2.1
theorem k0_idx71_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v11, v60] : Fin 2 → IVec S16 32) a x).toNat < S128x512.size a := fun v5 v7 v9 v11 v13 v15 v17 v19 v60 k0_hw5 => k0_hw5.2.2.2.2.2.2.1
theorem k0_idx72_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v11, v60] : Fin 2 → IVec S16 32) a x).toNat < S128x512.size a := fun v5 v7 v9 v11 v13 v15 v17 v19 v60 k0_hw5 => k0_hw5.2.2.2.2.2.2.2.1
theorem k0_idx73_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v13, v60] : Fin 2 → IVec S16 32) a x).toNat < S128x512.size a := fun v5 v7 v9 v11 v13 v15 v17 v19 v60 k0_hw5 => k0_hw5.2.2.2.2.2.2.2.2.1
theorem k0_idx74_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v13, v60] : Fin 2 → IVec S16 32) a x).toNat < S128x512.size a := fun v5 v7 v9 v11 v13 v15 v17 v19 v60 k0_hw5 => k0_hw5.2.2.2.2.2.2.2.2.2.1
theorem k0_idx75_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v15, v60] : Fin 2 → IVec S16 32) a x).toNat < S128x512.size a := fun v5 v7 v9 v11 v13 v15 v17 v19 v60 k0_hw5 => k0_hw5.2.2.2.2.2.2.2.2.2.2.1
theorem k0_idx76_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v15, v60] : Fin 2 → IVec S16 32) a x).toNat < S128x512.size a := fun v5 v7 v9 v11 v13 v15 v17 v19 v60 k0_hw5 => k0_hw5.2.2.2.2.2.2.2.2.2.2.2.1
theorem k0_idx77_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v17, v60] : Fin 2 → IVec S16 32) a x).toNat < S128x512.size a := fun v5 v7 v9 v11 v13 v15 v17 v19 v60 k0_hw5 => k0_hw5.2.2.2.2.2.2.2.2.2.2.2.2.1
theorem k0_idx78_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v17, v60] : Fin 2 → IVec S16 32) a x).toNat < S128x512.size a := fun v5 v7 v9 v11 v13 v15 v17 v19 v60 k0_hw5 => k0_hw5.2.2.2.2.2.2.2.2.2.2.2.2.2.1
theorem k0_idx79_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v19, v60] : Fin 2 → IVec S16 32) a x).toNat < S128x512.size a := fun v5 v7 v9 v11 v13 v15 v17 v19 v60 k0_hw5 => k0_hw5.2.2.2.2.2.2.2.2.2.2.2.2.2.2.1
theorem k0_idx80_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw5 : k0_chk5 v5 v7 v9 v11 v13 v15 v17 v19 v60), ∀ a x, ((![v19, v60] : Fin 2 → IVec S16 32) a x).toNat < S128x512.size a := fun v5 v7 v9 v11 v13 v15 v17 v19 v60 k0_hw5 => k0_hw5.2.2.2.2.2.2.2.2.2.2.2.2.2.2.2
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2560_i32_r10 : BitVec 32 := 2560#32
  ![v2.toNat, 2560]
@[reducible] def k0_t6_loop : Scf.Loop 32 :=
  let c0_i32_25 : BitVec 32 := 0#32
  let c512_i32_26 : BitVec 32 := 512#32
  let v38 : BitVec 32 := Scalar.addi c0_i32_25 c512_i32_26
  let c1_i32_27 : BitVec 32 := 1#32
  ⟨c0_i32_25, v38, c1_i32_27⟩

def k0_chk6 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx81_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v5, v60] : Fin 2 → IVec S16 32) a x).toNat < S128x512.size a := fun v5 v7 v9 v11 v13 v15 v17 v19 v60 k0_hw6 => k0_hw6.1
theorem k0_idx82_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v5, v60] : Fin 2 → IVec S16 32) a x).toNat < S128x512.size a := fun v5 v7 v9 v11 v13 v15 v17 v19 v60 k0_hw6 => k0_hw6.2.1
theorem k0_idx83_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v7, v60] : Fin 2 → IVec S16 32) a x).toNat < S128x512.size a := fun v5 v7 v9 v11 v13 v15 v17 v19 v60 k0_hw6 => k0_hw6.2.2.1
theorem k0_idx84_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v7, v60] : Fin 2 → IVec S16 32) a x).toNat < S128x512.size a := fun v5 v7 v9 v11 v13 v15 v17 v19 v60 k0_hw6 => k0_hw6.2.2.2.1
theorem k0_idx85_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v9, v60] : Fin 2 → IVec S16 32) a x).toNat < S128x512.size a := fun v5 v7 v9 v11 v13 v15 v17 v19 v60 k0_hw6 => k0_hw6.2.2.2.2.1
theorem k0_idx86_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v9, v60] : Fin 2 → IVec S16 32) a x).toNat < S128x512.size a := fun v5 v7 v9 v11 v13 v15 v17 v19 v60 k0_hw6 => k0_hw6.2.2.2.2.2.1
theorem k0_idx87_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v11, v60] : Fin 2 → IVec S16 32) a x).toNat < S128x512.size a := fun v5 v7 v9 v11 v13 v15 v17 v19 v60 k0_hw6 => k0_hw6.2.2.2.2.2.2.1
theorem k0_idx88_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v11, v60] : Fin 2 → IVec S16 32) a x).toNat < S128x512.size a := fun v5 v7 v9 v11 v13 v15 v17 v19 v60 k0_hw6 => k0_hw6.2.2.2.2.2.2.2.1
theorem k0_idx89_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v13, v60] : Fin 2 → IVec S16 32) a x).toNat < S128x512.size a := fun v5 v7 v9 v11 v13 v15 v17 v19 v60 k0_hw6 => k0_hw6.2.2.2.2.2.2.2.2.1
theorem k0_idx90_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v13, v60] : Fin 2 → IVec S16 32) a x).toNat < S128x512.size a := fun v5 v7 v9 v11 v13 v15 v17 v19 v60 k0_hw6 => k0_hw6.2.2.2.2.2.2.2.2.2.1
theorem k0_idx91_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v15, v60] : Fin 2 → IVec S16 32) a x).toNat < S128x512.size a := fun v5 v7 v9 v11 v13 v15 v17 v19 v60 k0_hw6 => k0_hw6.2.2.2.2.2.2.2.2.2.2.1
theorem k0_idx92_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v15, v60] : Fin 2 → IVec S16 32) a x).toNat < S128x512.size a := fun v5 v7 v9 v11 v13 v15 v17 v19 v60 k0_hw6 => k0_hw6.2.2.2.2.2.2.2.2.2.2.2.1
theorem k0_idx93_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v17, v60] : Fin 2 → IVec S16 32) a x).toNat < S128x512.size a := fun v5 v7 v9 v11 v13 v15 v17 v19 v60 k0_hw6 => k0_hw6.2.2.2.2.2.2.2.2.2.2.2.2.1
theorem k0_idx94_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v17, v60] : Fin 2 → IVec S16 32) a x).toNat < S128x512.size a := fun v5 v7 v9 v11 v13 v15 v17 v19 v60 k0_hw6 => k0_hw6.2.2.2.2.2.2.2.2.2.2.2.2.2.1
theorem k0_idx95_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v19, v60] : Fin 2 → IVec S16 32) a x).toNat < S128x512.size a := fun v5 v7 v9 v11 v13 v15 v17 v19 v60 k0_hw6 => k0_hw6.2.2.2.2.2.2.2.2.2.2.2.2.2.2.1
theorem k0_idx96_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw6 : k0_chk6 v5 v7 v9 v11 v13 v15 v17 v19 v60), ∀ a x, ((![v19, v60] : Fin 2 → IVec S16 32) a x).toNat < S128x512.size a := fun v5 v7 v9 v11 v13 v15 v17 v19 v60 k0_hw6 => k0_hw6.2.2.2.2.2.2.2.2.2.2.2.2.2.2.2
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3072_i32_r12 : BitVec 32 := 3072#32
  ![v2.toNat, 3072]
@[reducible] def k0_t7_loop : Scf.Loop 32 :=
  let c0_i32_29 : BitVec 32 := 0#32
  let c512_i32_30 : BitVec 32 := 512#32
  let v40 : BitVec 32 := Scalar.addi c0_i32_29 c512_i32_30
  let c1_i32_31 : BitVec 32 := 1#32
  ⟨c0_i32_29, v40, c1_i32_31⟩

def k0_chk7 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx97_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v5, v60] : Fin 2 → IVec S16 32) a x).toNat < S128x512.size a := fun v5 v7 v9 v11 v13 v15 v17 v19 v60 k0_hw7 => k0_hw7.1
theorem k0_idx98_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v5, v60] : Fin 2 → IVec S16 32) a x).toNat < S128x512.size a := fun v5 v7 v9 v11 v13 v15 v17 v19 v60 k0_hw7 => k0_hw7.2.1
theorem k0_idx99_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v7, v60] : Fin 2 → IVec S16 32) a x).toNat < S128x512.size a := fun v5 v7 v9 v11 v13 v15 v17 v19 v60 k0_hw7 => k0_hw7.2.2.1
theorem k0_idx100_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v7, v60] : Fin 2 → IVec S16 32) a x).toNat < S128x512.size a := fun v5 v7 v9 v11 v13 v15 v17 v19 v60 k0_hw7 => k0_hw7.2.2.2.1
theorem k0_idx101_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v9, v60] : Fin 2 → IVec S16 32) a x).toNat < S128x512.size a := fun v5 v7 v9 v11 v13 v15 v17 v19 v60 k0_hw7 => k0_hw7.2.2.2.2.1
theorem k0_idx102_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v9, v60] : Fin 2 → IVec S16 32) a x).toNat < S128x512.size a := fun v5 v7 v9 v11 v13 v15 v17 v19 v60 k0_hw7 => k0_hw7.2.2.2.2.2.1
theorem k0_idx103_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v11, v60] : Fin 2 → IVec S16 32) a x).toNat < S128x512.size a := fun v5 v7 v9 v11 v13 v15 v17 v19 v60 k0_hw7 => k0_hw7.2.2.2.2.2.2.1
theorem k0_idx104_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v11, v60] : Fin 2 → IVec S16 32) a x).toNat < S128x512.size a := fun v5 v7 v9 v11 v13 v15 v17 v19 v60 k0_hw7 => k0_hw7.2.2.2.2.2.2.2.1
theorem k0_idx105_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v13, v60] : Fin 2 → IVec S16 32) a x).toNat < S128x512.size a := fun v5 v7 v9 v11 v13 v15 v17 v19 v60 k0_hw7 => k0_hw7.2.2.2.2.2.2.2.2.1
theorem k0_idx106_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v13, v60] : Fin 2 → IVec S16 32) a x).toNat < S128x512.size a := fun v5 v7 v9 v11 v13 v15 v17 v19 v60 k0_hw7 => k0_hw7.2.2.2.2.2.2.2.2.2.1
theorem k0_idx107_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v15, v60] : Fin 2 → IVec S16 32) a x).toNat < S128x512.size a := fun v5 v7 v9 v11 v13 v15 v17 v19 v60 k0_hw7 => k0_hw7.2.2.2.2.2.2.2.2.2.2.1
theorem k0_idx108_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v15, v60] : Fin 2 → IVec S16 32) a x).toNat < S128x512.size a := fun v5 v7 v9 v11 v13 v15 v17 v19 v60 k0_hw7 => k0_hw7.2.2.2.2.2.2.2.2.2.2.2.1
theorem k0_idx109_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v17, v60] : Fin 2 → IVec S16 32) a x).toNat < S128x512.size a := fun v5 v7 v9 v11 v13 v15 v17 v19 v60 k0_hw7 => k0_hw7.2.2.2.2.2.2.2.2.2.2.2.2.1
theorem k0_idx110_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v17, v60] : Fin 2 → IVec S16 32) a x).toNat < S128x512.size a := fun v5 v7 v9 v11 v13 v15 v17 v19 v60 k0_hw7 => k0_hw7.2.2.2.2.2.2.2.2.2.2.2.2.2.1
theorem k0_idx111_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v19, v60] : Fin 2 → IVec S16 32) a x).toNat < S128x512.size a := fun v5 v7 v9 v11 v13 v15 v17 v19 v60 k0_hw7 => k0_hw7.2.2.2.2.2.2.2.2.2.2.2.2.2.2.1
theorem k0_idx112_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw7 : k0_chk7 v5 v7 v9 v11 v13 v15 v17 v19 v60), ∀ a x, ((![v19, v60] : Fin 2 → IVec S16 32) a x).toNat < S128x512.size a := fun v5 v7 v9 v11 v13 v15 v17 v19 v60 k0_hw7 => k0_hw7.2.2.2.2.2.2.2.2.2.2.2.2.2.2.2
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3584_i32_r14 : BitVec 32 := 3584#32
  ![v2.toNat, 3584]
@[reducible] def k0_t8_loop : Scf.Loop 32 :=
  let c0_i32_33 : BitVec 32 := 0#32
  let c512_i32_34 : BitVec 32 := 512#32
  let v42 : BitVec 32 := Scalar.addi c0_i32_33 c512_i32_34
  let c1_i32_35 : BitVec 32 := 1#32
  ⟨c0_i32_33, v42, c1_i32_35⟩

def k0_chk8 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx113_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v5, v60] : Fin 2 → IVec S16 32) a x).toNat < S128x512.size a := fun v5 v7 v9 v11 v13 v15 v17 v19 v60 k0_hw8 => k0_hw8.1
theorem k0_idx114_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v5, v60] : Fin 2 → IVec S16 32) a x).toNat < S128x512.size a := fun v5 v7 v9 v11 v13 v15 v17 v19 v60 k0_hw8 => k0_hw8.2.1
theorem k0_idx115_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v7, v60] : Fin 2 → IVec S16 32) a x).toNat < S128x512.size a := fun v5 v7 v9 v11 v13 v15 v17 v19 v60 k0_hw8 => k0_hw8.2.2.1
theorem k0_idx116_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v7, v60] : Fin 2 → IVec S16 32) a x).toNat < S128x512.size a := fun v5 v7 v9 v11 v13 v15 v17 v19 v60 k0_hw8 => k0_hw8.2.2.2.1
theorem k0_idx117_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v9, v60] : Fin 2 → IVec S16 32) a x).toNat < S128x512.size a := fun v5 v7 v9 v11 v13 v15 v17 v19 v60 k0_hw8 => k0_hw8.2.2.2.2.1
theorem k0_idx118_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v9, v60] : Fin 2 → IVec S16 32) a x).toNat < S128x512.size a := fun v5 v7 v9 v11 v13 v15 v17 v19 v60 k0_hw8 => k0_hw8.2.2.2.2.2.1
theorem k0_idx119_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v11, v60] : Fin 2 → IVec S16 32) a x).toNat < S128x512.size a := fun v5 v7 v9 v11 v13 v15 v17 v19 v60 k0_hw8 => k0_hw8.2.2.2.2.2.2.1
theorem k0_idx120_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v11, v60] : Fin 2 → IVec S16 32) a x).toNat < S128x512.size a := fun v5 v7 v9 v11 v13 v15 v17 v19 v60 k0_hw8 => k0_hw8.2.2.2.2.2.2.2.1
theorem k0_idx121_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v13, v60] : Fin 2 → IVec S16 32) a x).toNat < S128x512.size a := fun v5 v7 v9 v11 v13 v15 v17 v19 v60 k0_hw8 => k0_hw8.2.2.2.2.2.2.2.2.1
theorem k0_idx122_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v13, v60] : Fin 2 → IVec S16 32) a x).toNat < S128x512.size a := fun v5 v7 v9 v11 v13 v15 v17 v19 v60 k0_hw8 => k0_hw8.2.2.2.2.2.2.2.2.2.1
theorem k0_idx123_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v15, v60] : Fin 2 → IVec S16 32) a x).toNat < S128x512.size a := fun v5 v7 v9 v11 v13 v15 v17 v19 v60 k0_hw8 => k0_hw8.2.2.2.2.2.2.2.2.2.2.1
theorem k0_idx124_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v15, v60] : Fin 2 → IVec S16 32) a x).toNat < S128x512.size a := fun v5 v7 v9 v11 v13 v15 v17 v19 v60 k0_hw8 => k0_hw8.2.2.2.2.2.2.2.2.2.2.2.1
theorem k0_idx125_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v17, v60] : Fin 2 → IVec S16 32) a x).toNat < S128x512.size a := fun v5 v7 v9 v11 v13 v15 v17 v19 v60 k0_hw8 => k0_hw8.2.2.2.2.2.2.2.2.2.2.2.2.1
theorem k0_idx126_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v17, v60] : Fin 2 → IVec S16 32) a x).toNat < S128x512.size a := fun v5 v7 v9 v11 v13 v15 v17 v19 v60 k0_hw8 => k0_hw8.2.2.2.2.2.2.2.2.2.2.2.2.2.1
theorem k0_idx127_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v19, v60] : Fin 2 → IVec S16 32) a x).toNat < S128x512.size a := fun v5 v7 v9 v11 v13 v15 v17 v19 v60 k0_hw8 => k0_hw8.2.2.2.2.2.2.2.2.2.2.2.2.2.2.1
theorem k0_idx128_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw8 : k0_chk8 v5 v7 v9 v11 v13 v15 v17 v19 v60), ∀ a x, ((![v19, v60] : Fin 2 → IVec S16 32) a x).toNat < S128x512.size a := fun v5 v7 v9 v11 v13 v15 v17 v19 v60 k0_hw8 => k0_hw8.2.2.2.2.2.2.2.2.2.2.2.2.2.2.2
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4096_i32_r16 : BitVec 32 := 4096#32
  ![v2.toNat, 4096]
@[reducible] def k0_t9_loop : Scf.Loop 32 :=
  let c0_i32_37 : BitVec 32 := 0#32
  let c512_i32_38 : BitVec 32 := 512#32
  let v44 : BitVec 32 := Scalar.addi c0_i32_37 c512_i32_38
  let c1_i32_39 : BitVec 32 := 1#32
  ⟨c0_i32_37, v44, c1_i32_39⟩

def k0_chk9 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx129_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v5, v60] : Fin 2 → IVec S16 32) a x).toNat < S128x512.size a := fun v5 v7 v9 v11 v13 v15 v17 v19 v60 k0_hw9 => k0_hw9.1
theorem k0_idx130_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v5, v60] : Fin 2 → IVec S16 32) a x).toNat < S128x512.size a := fun v5 v7 v9 v11 v13 v15 v17 v19 v60 k0_hw9 => k0_hw9.2.1
theorem k0_idx131_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v7, v60] : Fin 2 → IVec S16 32) a x).toNat < S128x512.size a := fun v5 v7 v9 v11 v13 v15 v17 v19 v60 k0_hw9 => k0_hw9.2.2.1
theorem k0_idx132_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v7, v60] : Fin 2 → IVec S16 32) a x).toNat < S128x512.size a := fun v5 v7 v9 v11 v13 v15 v17 v19 v60 k0_hw9 => k0_hw9.2.2.2.1
theorem k0_idx133_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v9, v60] : Fin 2 → IVec S16 32) a x).toNat < S128x512.size a := fun v5 v7 v9 v11 v13 v15 v17 v19 v60 k0_hw9 => k0_hw9.2.2.2.2.1
theorem k0_idx134_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v9, v60] : Fin 2 → IVec S16 32) a x).toNat < S128x512.size a := fun v5 v7 v9 v11 v13 v15 v17 v19 v60 k0_hw9 => k0_hw9.2.2.2.2.2.1
theorem k0_idx135_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v11, v60] : Fin 2 → IVec S16 32) a x).toNat < S128x512.size a := fun v5 v7 v9 v11 v13 v15 v17 v19 v60 k0_hw9 => k0_hw9.2.2.2.2.2.2.1
theorem k0_idx136_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v11, v60] : Fin 2 → IVec S16 32) a x).toNat < S128x512.size a := fun v5 v7 v9 v11 v13 v15 v17 v19 v60 k0_hw9 => k0_hw9.2.2.2.2.2.2.2.1
theorem k0_idx137_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v13, v60] : Fin 2 → IVec S16 32) a x).toNat < S128x512.size a := fun v5 v7 v9 v11 v13 v15 v17 v19 v60 k0_hw9 => k0_hw9.2.2.2.2.2.2.2.2.1
theorem k0_idx138_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v13, v60] : Fin 2 → IVec S16 32) a x).toNat < S128x512.size a := fun v5 v7 v9 v11 v13 v15 v17 v19 v60 k0_hw9 => k0_hw9.2.2.2.2.2.2.2.2.2.1
theorem k0_idx139_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v15, v60] : Fin 2 → IVec S16 32) a x).toNat < S128x512.size a := fun v5 v7 v9 v11 v13 v15 v17 v19 v60 k0_hw9 => k0_hw9.2.2.2.2.2.2.2.2.2.2.1
theorem k0_idx140_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v15, v60] : Fin 2 → IVec S16 32) a x).toNat < S128x512.size a := fun v5 v7 v9 v11 v13 v15 v17 v19 v60 k0_hw9 => k0_hw9.2.2.2.2.2.2.2.2.2.2.2.1
theorem k0_idx141_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v17, v60] : Fin 2 → IVec S16 32) a x).toNat < S128x512.size a := fun v5 v7 v9 v11 v13 v15 v17 v19 v60 k0_hw9 => k0_hw9.2.2.2.2.2.2.2.2.2.2.2.2.1
theorem k0_idx142_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v17, v60] : Fin 2 → IVec S16 32) a x).toNat < S128x512.size a := fun v5 v7 v9 v11 v13 v15 v17 v19 v60 k0_hw9 => k0_hw9.2.2.2.2.2.2.2.2.2.2.2.2.2.1
theorem k0_idx143_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v19, v60] : Fin 2 → IVec S16 32) a x).toNat < S128x512.size a := fun v5 v7 v9 v11 v13 v15 v17 v19 v60 k0_hw9 => k0_hw9.2.2.2.2.2.2.2.2.2.2.2.2.2.2.1
theorem k0_idx144_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw9 : k0_chk9 v5 v7 v9 v11 v13 v15 v17 v19 v60), ∀ a x, ((![v19, v60] : Fin 2 → IVec S16 32) a x).toNat < S128x512.size a := fun v5 v7 v9 v11 v13 v15 v17 v19 v60 k0_hw9 => k0_hw9.2.2.2.2.2.2.2.2.2.2.2.2.2.2.2
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4608_i32_r18 : BitVec 32 := 4608#32
  ![v2.toNat, 4608]
@[reducible] def k0_t10_loop : Scf.Loop 32 :=
  let c0_i32_41 : BitVec 32 := 0#32
  let c512_i32_42 : BitVec 32 := 512#32
  let v46 : BitVec 32 := Scalar.addi c0_i32_41 c512_i32_42
  let c1_i32_43 : BitVec 32 := 1#32
  ⟨c0_i32_41, v46, c1_i32_43⟩

def k0_chk10 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx145_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v5, v60] : Fin 2 → IVec S16 32) a x).toNat < S128x512.size a := fun v5 v7 v9 v11 v13 v15 v17 v19 v60 k0_hw10 => k0_hw10.1
theorem k0_idx146_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v5, v60] : Fin 2 → IVec S16 32) a x).toNat < S128x512.size a := fun v5 v7 v9 v11 v13 v15 v17 v19 v60 k0_hw10 => k0_hw10.2.1
theorem k0_idx147_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v7, v60] : Fin 2 → IVec S16 32) a x).toNat < S128x512.size a := fun v5 v7 v9 v11 v13 v15 v17 v19 v60 k0_hw10 => k0_hw10.2.2.1
theorem k0_idx148_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v7, v60] : Fin 2 → IVec S16 32) a x).toNat < S128x512.size a := fun v5 v7 v9 v11 v13 v15 v17 v19 v60 k0_hw10 => k0_hw10.2.2.2.1
theorem k0_idx149_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v9, v60] : Fin 2 → IVec S16 32) a x).toNat < S128x512.size a := fun v5 v7 v9 v11 v13 v15 v17 v19 v60 k0_hw10 => k0_hw10.2.2.2.2.1
theorem k0_idx150_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v9, v60] : Fin 2 → IVec S16 32) a x).toNat < S128x512.size a := fun v5 v7 v9 v11 v13 v15 v17 v19 v60 k0_hw10 => k0_hw10.2.2.2.2.2.1
theorem k0_idx151_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v11, v60] : Fin 2 → IVec S16 32) a x).toNat < S128x512.size a := fun v5 v7 v9 v11 v13 v15 v17 v19 v60 k0_hw10 => k0_hw10.2.2.2.2.2.2.1
theorem k0_idx152_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v11, v60] : Fin 2 → IVec S16 32) a x).toNat < S128x512.size a := fun v5 v7 v9 v11 v13 v15 v17 v19 v60 k0_hw10 => k0_hw10.2.2.2.2.2.2.2.1
theorem k0_idx153_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v13, v60] : Fin 2 → IVec S16 32) a x).toNat < S128x512.size a := fun v5 v7 v9 v11 v13 v15 v17 v19 v60 k0_hw10 => k0_hw10.2.2.2.2.2.2.2.2.1
theorem k0_idx154_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v13, v60] : Fin 2 → IVec S16 32) a x).toNat < S128x512.size a := fun v5 v7 v9 v11 v13 v15 v17 v19 v60 k0_hw10 => k0_hw10.2.2.2.2.2.2.2.2.2.1
theorem k0_idx155_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v15, v60] : Fin 2 → IVec S16 32) a x).toNat < S128x512.size a := fun v5 v7 v9 v11 v13 v15 v17 v19 v60 k0_hw10 => k0_hw10.2.2.2.2.2.2.2.2.2.2.1
theorem k0_idx156_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v15, v60] : Fin 2 → IVec S16 32) a x).toNat < S128x512.size a := fun v5 v7 v9 v11 v13 v15 v17 v19 v60 k0_hw10 => k0_hw10.2.2.2.2.2.2.2.2.2.2.2.1
theorem k0_idx157_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v17, v60] : Fin 2 → IVec S16 32) a x).toNat < S128x512.size a := fun v5 v7 v9 v11 v13 v15 v17 v19 v60 k0_hw10 => k0_hw10.2.2.2.2.2.2.2.2.2.2.2.2.1
theorem k0_idx158_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v17, v60] : Fin 2 → IVec S16 32) a x).toNat < S128x512.size a := fun v5 v7 v9 v11 v13 v15 v17 v19 v60 k0_hw10 => k0_hw10.2.2.2.2.2.2.2.2.2.2.2.2.2.1
theorem k0_idx159_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v19, v60] : Fin 2 → IVec S16 32) a x).toNat < S128x512.size a := fun v5 v7 v9 v11 v13 v15 v17 v19 v60 k0_hw10 => k0_hw10.2.2.2.2.2.2.2.2.2.2.2.2.2.2.1
theorem k0_idx160_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw10 : k0_chk10 v5 v7 v9 v11 v13 v15 v17 v19 v60), ∀ a x, ((![v19, v60] : Fin 2 → IVec S16 32) a x).toNat < S128x512.size a := fun v5 v7 v9 v11 v13 v15 v17 v19 v60 k0_hw10 => k0_hw10.2.2.2.2.2.2.2.2.2.2.2.2.2.2.2
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5120_i32_r20 : BitVec 32 := 5120#32
  ![v2.toNat, 5120]
@[reducible] def k0_t11_loop : Scf.Loop 32 :=
  let c0_i32_45 : BitVec 32 := 0#32
  let c512_i32_46 : BitVec 32 := 512#32
  let v48 : BitVec 32 := Scalar.addi c0_i32_45 c512_i32_46
  let c1_i32_47 : BitVec 32 := 1#32
  ⟨c0_i32_45, v48, c1_i32_47⟩

def k0_chk11 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx161_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v5, v60] : Fin 2 → IVec S16 32) a x).toNat < S128x512.size a := fun v5 v7 v9 v11 v13 v15 v17 v19 v60 k0_hw11 => k0_hw11.1
theorem k0_idx162_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v5, v60] : Fin 2 → IVec S16 32) a x).toNat < S128x512.size a := fun v5 v7 v9 v11 v13 v15 v17 v19 v60 k0_hw11 => k0_hw11.2.1
theorem k0_idx163_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v7, v60] : Fin 2 → IVec S16 32) a x).toNat < S128x512.size a := fun v5 v7 v9 v11 v13 v15 v17 v19 v60 k0_hw11 => k0_hw11.2.2.1
theorem k0_idx164_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v7, v60] : Fin 2 → IVec S16 32) a x).toNat < S128x512.size a := fun v5 v7 v9 v11 v13 v15 v17 v19 v60 k0_hw11 => k0_hw11.2.2.2.1
theorem k0_idx165_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v9, v60] : Fin 2 → IVec S16 32) a x).toNat < S128x512.size a := fun v5 v7 v9 v11 v13 v15 v17 v19 v60 k0_hw11 => k0_hw11.2.2.2.2.1
theorem k0_idx166_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v9, v60] : Fin 2 → IVec S16 32) a x).toNat < S128x512.size a := fun v5 v7 v9 v11 v13 v15 v17 v19 v60 k0_hw11 => k0_hw11.2.2.2.2.2.1
theorem k0_idx167_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v11, v60] : Fin 2 → IVec S16 32) a x).toNat < S128x512.size a := fun v5 v7 v9 v11 v13 v15 v17 v19 v60 k0_hw11 => k0_hw11.2.2.2.2.2.2.1
theorem k0_idx168_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v11, v60] : Fin 2 → IVec S16 32) a x).toNat < S128x512.size a := fun v5 v7 v9 v11 v13 v15 v17 v19 v60 k0_hw11 => k0_hw11.2.2.2.2.2.2.2.1
theorem k0_idx169_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v13, v60] : Fin 2 → IVec S16 32) a x).toNat < S128x512.size a := fun v5 v7 v9 v11 v13 v15 v17 v19 v60 k0_hw11 => k0_hw11.2.2.2.2.2.2.2.2.1
theorem k0_idx170_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v13, v60] : Fin 2 → IVec S16 32) a x).toNat < S128x512.size a := fun v5 v7 v9 v11 v13 v15 v17 v19 v60 k0_hw11 => k0_hw11.2.2.2.2.2.2.2.2.2.1
theorem k0_idx171_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v15, v60] : Fin 2 → IVec S16 32) a x).toNat < S128x512.size a := fun v5 v7 v9 v11 v13 v15 v17 v19 v60 k0_hw11 => k0_hw11.2.2.2.2.2.2.2.2.2.2.1
theorem k0_idx172_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v15, v60] : Fin 2 → IVec S16 32) a x).toNat < S128x512.size a := fun v5 v7 v9 v11 v13 v15 v17 v19 v60 k0_hw11 => k0_hw11.2.2.2.2.2.2.2.2.2.2.2.1
theorem k0_idx173_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v17, v60] : Fin 2 → IVec S16 32) a x).toNat < S128x512.size a := fun v5 v7 v9 v11 v13 v15 v17 v19 v60 k0_hw11 => k0_hw11.2.2.2.2.2.2.2.2.2.2.2.2.1
theorem k0_idx174_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v17, v60] : Fin 2 → IVec S16 32) a x).toNat < S128x512.size a := fun v5 v7 v9 v11 v13 v15 v17 v19 v60 k0_hw11 => k0_hw11.2.2.2.2.2.2.2.2.2.2.2.2.2.1
theorem k0_idx175_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v19, v60] : Fin 2 → IVec S16 32) a x).toNat < S128x512.size a := fun v5 v7 v9 v11 v13 v15 v17 v19 v60 k0_hw11 => k0_hw11.2.2.2.2.2.2.2.2.2.2.2.2.2.2.1
theorem k0_idx176_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw11 : k0_chk11 v5 v7 v9 v11 v13 v15 v17 v19 v60), ∀ a x, ((![v19, v60] : Fin 2 → IVec S16 32) a x).toNat < S128x512.size a := fun v5 v7 v9 v11 v13 v15 v17 v19 v60 k0_hw11 => k0_hw11.2.2.2.2.2.2.2.2.2.2.2.2.2.2.2
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5632_i32_r22 : BitVec 32 := 5632#32
  ![v2.toNat, 5632]
@[reducible] def k0_t12_loop : Scf.Loop 32 :=
  let c0_i32_49 : BitVec 32 := 0#32
  let c512_i32_50 : BitVec 32 := 512#32
  let v50 : BitVec 32 := Scalar.addi c0_i32_49 c512_i32_50
  let c1_i32_51 : BitVec 32 := 1#32
  ⟨c0_i32_49, v50, c1_i32_51⟩

def k0_chk12 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx177_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v5, v60] : Fin 2 → IVec S16 32) a x).toNat < S128x512.size a := fun v5 v7 v9 v11 v13 v15 v17 v19 v60 k0_hw12 => k0_hw12.1
theorem k0_idx178_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v5, v60] : Fin 2 → IVec S16 32) a x).toNat < S128x512.size a := fun v5 v7 v9 v11 v13 v15 v17 v19 v60 k0_hw12 => k0_hw12.2.1
theorem k0_idx179_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v7, v60] : Fin 2 → IVec S16 32) a x).toNat < S128x512.size a := fun v5 v7 v9 v11 v13 v15 v17 v19 v60 k0_hw12 => k0_hw12.2.2.1
theorem k0_idx180_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v7, v60] : Fin 2 → IVec S16 32) a x).toNat < S128x512.size a := fun v5 v7 v9 v11 v13 v15 v17 v19 v60 k0_hw12 => k0_hw12.2.2.2.1
theorem k0_idx181_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v9, v60] : Fin 2 → IVec S16 32) a x).toNat < S128x512.size a := fun v5 v7 v9 v11 v13 v15 v17 v19 v60 k0_hw12 => k0_hw12.2.2.2.2.1
theorem k0_idx182_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v9, v60] : Fin 2 → IVec S16 32) a x).toNat < S128x512.size a := fun v5 v7 v9 v11 v13 v15 v17 v19 v60 k0_hw12 => k0_hw12.2.2.2.2.2.1
theorem k0_idx183_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v11, v60] : Fin 2 → IVec S16 32) a x).toNat < S128x512.size a := fun v5 v7 v9 v11 v13 v15 v17 v19 v60 k0_hw12 => k0_hw12.2.2.2.2.2.2.1
theorem k0_idx184_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v11, v60] : Fin 2 → IVec S16 32) a x).toNat < S128x512.size a := fun v5 v7 v9 v11 v13 v15 v17 v19 v60 k0_hw12 => k0_hw12.2.2.2.2.2.2.2.1
theorem k0_idx185_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v13, v60] : Fin 2 → IVec S16 32) a x).toNat < S128x512.size a := fun v5 v7 v9 v11 v13 v15 v17 v19 v60 k0_hw12 => k0_hw12.2.2.2.2.2.2.2.2.1
theorem k0_idx186_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v13, v60] : Fin 2 → IVec S16 32) a x).toNat < S128x512.size a := fun v5 v7 v9 v11 v13 v15 v17 v19 v60 k0_hw12 => k0_hw12.2.2.2.2.2.2.2.2.2.1
theorem k0_idx187_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v15, v60] : Fin 2 → IVec S16 32) a x).toNat < S128x512.size a := fun v5 v7 v9 v11 v13 v15 v17 v19 v60 k0_hw12 => k0_hw12.2.2.2.2.2.2.2.2.2.2.1
theorem k0_idx188_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v15, v60] : Fin 2 → IVec S16 32) a x).toNat < S128x512.size a := fun v5 v7 v9 v11 v13 v15 v17 v19 v60 k0_hw12 => k0_hw12.2.2.2.2.2.2.2.2.2.2.2.1
theorem k0_idx189_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v17, v60] : Fin 2 → IVec S16 32) a x).toNat < S128x512.size a := fun v5 v7 v9 v11 v13 v15 v17 v19 v60 k0_hw12 => k0_hw12.2.2.2.2.2.2.2.2.2.2.2.2.1
theorem k0_idx190_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v17, v60] : Fin 2 → IVec S16 32) a x).toNat < S128x512.size a := fun v5 v7 v9 v11 v13 v15 v17 v19 v60 k0_hw12 => k0_hw12.2.2.2.2.2.2.2.2.2.2.2.2.2.1
theorem k0_idx191_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v19, v60] : Fin 2 → IVec S16 32) a x).toNat < S128x512.size a := fun v5 v7 v9 v11 v13 v15 v17 v19 v60 k0_hw12 => k0_hw12.2.2.2.2.2.2.2.2.2.2.2.2.2.2.1
theorem k0_idx192_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw12 : k0_chk12 v5 v7 v9 v11 v13 v15 v17 v19 v60), ∀ a x, ((![v19, v60] : Fin 2 → IVec S16 32) a x).toNat < S128x512.size a := fun v5 v7 v9 v11 v13 v15 v17 v19 v60 k0_hw12 => k0_hw12.2.2.2.2.2.2.2.2.2.2.2.2.2.2.2
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c6144_i32_r24 : BitVec 32 := 6144#32
  ![v2.toNat, 6144]
@[reducible] def k0_t13_loop : Scf.Loop 32 :=
  let c0_i32_53 : BitVec 32 := 0#32
  let c512_i32_54 : BitVec 32 := 512#32
  let v52 : BitVec 32 := Scalar.addi c0_i32_53 c512_i32_54
  let c1_i32_55 : BitVec 32 := 1#32
  ⟨c0_i32_53, v52, c1_i32_55⟩

def k0_chk13 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx193_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v5, v60] : Fin 2 → IVec S16 32) a x).toNat < S128x512.size a := fun v5 v7 v9 v11 v13 v15 v17 v19 v60 k0_hw13 => k0_hw13.1
theorem k0_idx194_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v5, v60] : Fin 2 → IVec S16 32) a x).toNat < S128x512.size a := fun v5 v7 v9 v11 v13 v15 v17 v19 v60 k0_hw13 => k0_hw13.2.1
theorem k0_idx195_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v7, v60] : Fin 2 → IVec S16 32) a x).toNat < S128x512.size a := fun v5 v7 v9 v11 v13 v15 v17 v19 v60 k0_hw13 => k0_hw13.2.2.1
theorem k0_idx196_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v7, v60] : Fin 2 → IVec S16 32) a x).toNat < S128x512.size a := fun v5 v7 v9 v11 v13 v15 v17 v19 v60 k0_hw13 => k0_hw13.2.2.2.1
theorem k0_idx197_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v9, v60] : Fin 2 → IVec S16 32) a x).toNat < S128x512.size a := fun v5 v7 v9 v11 v13 v15 v17 v19 v60 k0_hw13 => k0_hw13.2.2.2.2.1
theorem k0_idx198_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v9, v60] : Fin 2 → IVec S16 32) a x).toNat < S128x512.size a := fun v5 v7 v9 v11 v13 v15 v17 v19 v60 k0_hw13 => k0_hw13.2.2.2.2.2.1
theorem k0_idx199_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v11, v60] : Fin 2 → IVec S16 32) a x).toNat < S128x512.size a := fun v5 v7 v9 v11 v13 v15 v17 v19 v60 k0_hw13 => k0_hw13.2.2.2.2.2.2.1
theorem k0_idx200_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v11, v60] : Fin 2 → IVec S16 32) a x).toNat < S128x512.size a := fun v5 v7 v9 v11 v13 v15 v17 v19 v60 k0_hw13 => k0_hw13.2.2.2.2.2.2.2.1
theorem k0_idx201_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v13, v60] : Fin 2 → IVec S16 32) a x).toNat < S128x512.size a := fun v5 v7 v9 v11 v13 v15 v17 v19 v60 k0_hw13 => k0_hw13.2.2.2.2.2.2.2.2.1
theorem k0_idx202_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v13, v60] : Fin 2 → IVec S16 32) a x).toNat < S128x512.size a := fun v5 v7 v9 v11 v13 v15 v17 v19 v60 k0_hw13 => k0_hw13.2.2.2.2.2.2.2.2.2.1
theorem k0_idx203_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v15, v60] : Fin 2 → IVec S16 32) a x).toNat < S128x512.size a := fun v5 v7 v9 v11 v13 v15 v17 v19 v60 k0_hw13 => k0_hw13.2.2.2.2.2.2.2.2.2.2.1
theorem k0_idx204_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v15, v60] : Fin 2 → IVec S16 32) a x).toNat < S128x512.size a := fun v5 v7 v9 v11 v13 v15 v17 v19 v60 k0_hw13 => k0_hw13.2.2.2.2.2.2.2.2.2.2.2.1
theorem k0_idx205_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v17, v60] : Fin 2 → IVec S16 32) a x).toNat < S128x512.size a := fun v5 v7 v9 v11 v13 v15 v17 v19 v60 k0_hw13 => k0_hw13.2.2.2.2.2.2.2.2.2.2.2.2.1
theorem k0_idx206_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v17, v60] : Fin 2 → IVec S16 32) a x).toNat < S128x512.size a := fun v5 v7 v9 v11 v13 v15 v17 v19 v60 k0_hw13 => k0_hw13.2.2.2.2.2.2.2.2.2.2.2.2.2.1
theorem k0_idx207_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v19, v60] : Fin 2 → IVec S16 32) a x).toNat < S128x512.size a := fun v5 v7 v9 v11 v13 v15 v17 v19 v60 k0_hw13 => k0_hw13.2.2.2.2.2.2.2.2.2.2.2.2.2.2.1
theorem k0_idx208_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw13 : k0_chk13 v5 v7 v9 v11 v13 v15 v17 v19 v60), ∀ a x, ((![v19, v60] : Fin 2 → IVec S16 32) a x).toNat < S128x512.size a := fun v5 v7 v9 v11 v13 v15 v17 v19 v60 k0_hw13 => k0_hw13.2.2.2.2.2.2.2.2.2.2.2.2.2.2.2
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c6656_i32_r26 : BitVec 32 := 6656#32
  ![v2.toNat, 6656]
@[reducible] def k0_t14_loop : Scf.Loop 32 :=
  let c0_i32_57 : BitVec 32 := 0#32
  let c512_i32_58 : BitVec 32 := 512#32
  let v54 : BitVec 32 := Scalar.addi c0_i32_57 c512_i32_58
  let c1_i32_59 : BitVec 32 := 1#32
  ⟨c0_i32_57, v54, c1_i32_59⟩

def k0_chk14 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx209_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v5, v60] : Fin 2 → IVec S16 32) a x).toNat < S128x512.size a := fun v5 v7 v9 v11 v13 v15 v17 v19 v60 k0_hw14 => k0_hw14.1
theorem k0_idx210_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v5, v60] : Fin 2 → IVec S16 32) a x).toNat < S128x512.size a := fun v5 v7 v9 v11 v13 v15 v17 v19 v60 k0_hw14 => k0_hw14.2.1
theorem k0_idx211_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v7, v60] : Fin 2 → IVec S16 32) a x).toNat < S128x512.size a := fun v5 v7 v9 v11 v13 v15 v17 v19 v60 k0_hw14 => k0_hw14.2.2.1
theorem k0_idx212_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v7, v60] : Fin 2 → IVec S16 32) a x).toNat < S128x512.size a := fun v5 v7 v9 v11 v13 v15 v17 v19 v60 k0_hw14 => k0_hw14.2.2.2.1
theorem k0_idx213_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v9, v60] : Fin 2 → IVec S16 32) a x).toNat < S128x512.size a := fun v5 v7 v9 v11 v13 v15 v17 v19 v60 k0_hw14 => k0_hw14.2.2.2.2.1
theorem k0_idx214_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v9, v60] : Fin 2 → IVec S16 32) a x).toNat < S128x512.size a := fun v5 v7 v9 v11 v13 v15 v17 v19 v60 k0_hw14 => k0_hw14.2.2.2.2.2.1
theorem k0_idx215_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v11, v60] : Fin 2 → IVec S16 32) a x).toNat < S128x512.size a := fun v5 v7 v9 v11 v13 v15 v17 v19 v60 k0_hw14 => k0_hw14.2.2.2.2.2.2.1
theorem k0_idx216_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v11, v60] : Fin 2 → IVec S16 32) a x).toNat < S128x512.size a := fun v5 v7 v9 v11 v13 v15 v17 v19 v60 k0_hw14 => k0_hw14.2.2.2.2.2.2.2.1
theorem k0_idx217_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v13, v60] : Fin 2 → IVec S16 32) a x).toNat < S128x512.size a := fun v5 v7 v9 v11 v13 v15 v17 v19 v60 k0_hw14 => k0_hw14.2.2.2.2.2.2.2.2.1
theorem k0_idx218_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v13, v60] : Fin 2 → IVec S16 32) a x).toNat < S128x512.size a := fun v5 v7 v9 v11 v13 v15 v17 v19 v60 k0_hw14 => k0_hw14.2.2.2.2.2.2.2.2.2.1
theorem k0_idx219_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v15, v60] : Fin 2 → IVec S16 32) a x).toNat < S128x512.size a := fun v5 v7 v9 v11 v13 v15 v17 v19 v60 k0_hw14 => k0_hw14.2.2.2.2.2.2.2.2.2.2.1
theorem k0_idx220_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v15, v60] : Fin 2 → IVec S16 32) a x).toNat < S128x512.size a := fun v5 v7 v9 v11 v13 v15 v17 v19 v60 k0_hw14 => k0_hw14.2.2.2.2.2.2.2.2.2.2.2.1
theorem k0_idx221_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v17, v60] : Fin 2 → IVec S16 32) a x).toNat < S128x512.size a := fun v5 v7 v9 v11 v13 v15 v17 v19 v60 k0_hw14 => k0_hw14.2.2.2.2.2.2.2.2.2.2.2.2.1
theorem k0_idx222_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v17, v60] : Fin 2 → IVec S16 32) a x).toNat < S128x512.size a := fun v5 v7 v9 v11 v13 v15 v17 v19 v60 k0_hw14 => k0_hw14.2.2.2.2.2.2.2.2.2.2.2.2.2.1
theorem k0_idx223_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v19, v60] : Fin 2 → IVec S16 32) a x).toNat < S128x512.size a := fun v5 v7 v9 v11 v13 v15 v17 v19 v60 k0_hw14 => k0_hw14.2.2.2.2.2.2.2.2.2.2.2.2.2.2.1
theorem k0_idx224_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw14 : k0_chk14 v5 v7 v9 v11 v13 v15 v17 v19 v60), ∀ a x, ((![v19, v60] : Fin 2 → IVec S16 32) a x).toNat < S128x512.size a := fun v5 v7 v9 v11 v13 v15 v17 v19 v60 k0_hw14 => k0_hw14.2.2.2.2.2.2.2.2.2.2.2.2.2.2.2
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c7168_i32_r28 : BitVec 32 := 7168#32
  ![v2.toNat, 7168]
@[reducible] def k0_t15_loop : Scf.Loop 32 :=
  let c0_i32_61 : BitVec 32 := 0#32
  let c512_i32_62 : BitVec 32 := 512#32
  let v56 : BitVec 32 := Scalar.addi c0_i32_61 c512_i32_62
  let c1_i32_63 : BitVec 32 := 1#32
  ⟨c0_i32_61, v56, c1_i32_63⟩

def k0_chk15 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx225_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v5, v60] : Fin 2 → IVec S16 32) a x).toNat < S128x512.size a := fun v5 v7 v9 v11 v13 v15 v17 v19 v60 k0_hw15 => k0_hw15.1
theorem k0_idx226_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v5, v60] : Fin 2 → IVec S16 32) a x).toNat < S128x512.size a := fun v5 v7 v9 v11 v13 v15 v17 v19 v60 k0_hw15 => k0_hw15.2.1
theorem k0_idx227_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v7, v60] : Fin 2 → IVec S16 32) a x).toNat < S128x512.size a := fun v5 v7 v9 v11 v13 v15 v17 v19 v60 k0_hw15 => k0_hw15.2.2.1
theorem k0_idx228_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v7, v60] : Fin 2 → IVec S16 32) a x).toNat < S128x512.size a := fun v5 v7 v9 v11 v13 v15 v17 v19 v60 k0_hw15 => k0_hw15.2.2.2.1
theorem k0_idx229_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v9, v60] : Fin 2 → IVec S16 32) a x).toNat < S128x512.size a := fun v5 v7 v9 v11 v13 v15 v17 v19 v60 k0_hw15 => k0_hw15.2.2.2.2.1
theorem k0_idx230_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v9, v60] : Fin 2 → IVec S16 32) a x).toNat < S128x512.size a := fun v5 v7 v9 v11 v13 v15 v17 v19 v60 k0_hw15 => k0_hw15.2.2.2.2.2.1
theorem k0_idx231_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v11, v60] : Fin 2 → IVec S16 32) a x).toNat < S128x512.size a := fun v5 v7 v9 v11 v13 v15 v17 v19 v60 k0_hw15 => k0_hw15.2.2.2.2.2.2.1
theorem k0_idx232_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v11, v60] : Fin 2 → IVec S16 32) a x).toNat < S128x512.size a := fun v5 v7 v9 v11 v13 v15 v17 v19 v60 k0_hw15 => k0_hw15.2.2.2.2.2.2.2.1
theorem k0_idx233_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v13, v60] : Fin 2 → IVec S16 32) a x).toNat < S128x512.size a := fun v5 v7 v9 v11 v13 v15 v17 v19 v60 k0_hw15 => k0_hw15.2.2.2.2.2.2.2.2.1
theorem k0_idx234_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v13, v60] : Fin 2 → IVec S16 32) a x).toNat < S128x512.size a := fun v5 v7 v9 v11 v13 v15 v17 v19 v60 k0_hw15 => k0_hw15.2.2.2.2.2.2.2.2.2.1
theorem k0_idx235_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v15, v60] : Fin 2 → IVec S16 32) a x).toNat < S128x512.size a := fun v5 v7 v9 v11 v13 v15 v17 v19 v60 k0_hw15 => k0_hw15.2.2.2.2.2.2.2.2.2.2.1
theorem k0_idx236_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v15, v60] : Fin 2 → IVec S16 32) a x).toNat < S128x512.size a := fun v5 v7 v9 v11 v13 v15 v17 v19 v60 k0_hw15 => k0_hw15.2.2.2.2.2.2.2.2.2.2.2.1
theorem k0_idx237_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v17, v60] : Fin 2 → IVec S16 32) a x).toNat < S128x512.size a := fun v5 v7 v9 v11 v13 v15 v17 v19 v60 k0_hw15 => k0_hw15.2.2.2.2.2.2.2.2.2.2.2.2.1
theorem k0_idx238_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v17, v60] : Fin 2 → IVec S16 32) a x).toNat < S128x512.size a := fun v5 v7 v9 v11 v13 v15 v17 v19 v60 k0_hw15 => k0_hw15.2.2.2.2.2.2.2.2.2.2.2.2.2.1
theorem k0_idx239_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v19, v60] : Fin 2 → IVec S16 32) a x).toNat < S128x512.size a := fun v5 v7 v9 v11 v13 v15 v17 v19 v60 k0_hw15 => k0_hw15.2.2.2.2.2.2.2.2.2.2.2.2.2.2.1
theorem k0_idx240_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw15 : k0_chk15 v5 v7 v9 v11 v13 v15 v17 v19 v60), ∀ a x, ((![v19, v60] : Fin 2 → IVec S16 32) a x).toNat < S128x512.size a := fun v5 v7 v9 v11 v13 v15 v17 v19 v60 k0_hw15 => k0_hw15.2.2.2.2.2.2.2.2.2.2.2.2.2.2.2
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c7680_i32_r30 : BitVec 32 := 7680#32
  ![v2.toNat, 7680]
@[reducible] def k0_t16_loop : Scf.Loop 32 :=
  let c0_i32_65 : BitVec 32 := 0#32
  let c512_i32_66 : BitVec 32 := 512#32
  let v58 : BitVec 32 := Scalar.addi c0_i32_65 c512_i32_66
  let c1_i32_67 : BitVec 32 := 1#32
  ⟨c0_i32_65, v58, c1_i32_67⟩

def k0_chk16 (v5 : IVec S16 32) (v7 : IVec S16 32) (v9 : IVec S16 32) (v11 : IVec S16 32) (v13 : IVec S16 32) (v15 : IVec S16 32) (v17 : IVec S16 32) (v19 : IVec S16 32) (v60 : IVec S16 32) : Prop :=
  (∀ a x, ((![v5, v60] : Fin 2 → IVec S16 32) a x).toNat < S128x512.size a) ∧
  (∀ a x, ((![v5, v60] : Fin 2 → IVec S16 32) a x).toNat < S128x512.size a) ∧
  (∀ a x, ((![v7, v60] : Fin 2 → IVec S16 32) a x).toNat < S128x512.size a) ∧
  (∀ a x, ((![v7, v60] : Fin 2 → IVec S16 32) a x).toNat < S128x512.size a) ∧
  (∀ a x, ((![v9, v60] : Fin 2 → IVec S16 32) a x).toNat < S128x512.size a) ∧
  (∀ a x, ((![v9, v60] : Fin 2 → IVec S16 32) a x).toNat < S128x512.size a) ∧
  (∀ a x, ((![v11, v60] : Fin 2 → IVec S16 32) a x).toNat < S128x512.size a) ∧
  (∀ a x, ((![v11, v60] : Fin 2 → IVec S16 32) a x).toNat < S128x512.size a) ∧
  (∀ a x, ((![v13, v60] : Fin 2 → IVec S16 32) a x).toNat < S128x512.size a) ∧
  (∀ a x, ((![v13, v60] : Fin 2 → IVec S16 32) a x).toNat < S128x512.size a) ∧
  (∀ a x, ((![v15, v60] : Fin 2 → IVec S16 32) a x).toNat < S128x512.size a) ∧
  (∀ a x, ((![v15, v60] : Fin 2 → IVec S16 32) a x).toNat < S128x512.size a) ∧
  (∀ a x, ((![v17, v60] : Fin 2 → IVec S16 32) a x).toNat < S128x512.size a) ∧
  (∀ a x, ((![v17, v60] : Fin 2 → IVec S16 32) a x).toNat < S128x512.size a) ∧
  (∀ a x, ((![v19, v60] : Fin 2 → IVec S16 32) a x).toNat < S128x512.size a) ∧
  (∀ a x, ((![v19, v60] : Fin 2 → IVec S16 32) a x).toNat < S128x512.size a)
theorem k0_idx241_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v5, v60] : Fin 2 → IVec S16 32) a x).toNat < S128x512.size a := fun v5 v7 v9 v11 v13 v15 v17 v19 v60 k0_hw16 => k0_hw16.1
theorem k0_idx242_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v5, v60] : Fin 2 → IVec S16 32) a x).toNat < S128x512.size a := fun v5 v7 v9 v11 v13 v15 v17 v19 v60 k0_hw16 => k0_hw16.2.1
theorem k0_idx243_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v7, v60] : Fin 2 → IVec S16 32) a x).toNat < S128x512.size a := fun v5 v7 v9 v11 v13 v15 v17 v19 v60 k0_hw16 => k0_hw16.2.2.1
theorem k0_idx244_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v7, v60] : Fin 2 → IVec S16 32) a x).toNat < S128x512.size a := fun v5 v7 v9 v11 v13 v15 v17 v19 v60 k0_hw16 => k0_hw16.2.2.2.1
theorem k0_idx245_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v9, v60] : Fin 2 → IVec S16 32) a x).toNat < S128x512.size a := fun v5 v7 v9 v11 v13 v15 v17 v19 v60 k0_hw16 => k0_hw16.2.2.2.2.1
theorem k0_idx246_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v9, v60] : Fin 2 → IVec S16 32) a x).toNat < S128x512.size a := fun v5 v7 v9 v11 v13 v15 v17 v19 v60 k0_hw16 => k0_hw16.2.2.2.2.2.1
theorem k0_idx247_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v11, v60] : Fin 2 → IVec S16 32) a x).toNat < S128x512.size a := fun v5 v7 v9 v11 v13 v15 v17 v19 v60 k0_hw16 => k0_hw16.2.2.2.2.2.2.1
theorem k0_idx248_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v11, v60] : Fin 2 → IVec S16 32) a x).toNat < S128x512.size a := fun v5 v7 v9 v11 v13 v15 v17 v19 v60 k0_hw16 => k0_hw16.2.2.2.2.2.2.2.1
theorem k0_idx249_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v13, v60] : Fin 2 → IVec S16 32) a x).toNat < S128x512.size a := fun v5 v7 v9 v11 v13 v15 v17 v19 v60 k0_hw16 => k0_hw16.2.2.2.2.2.2.2.2.1
theorem k0_idx250_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v13, v60] : Fin 2 → IVec S16 32) a x).toNat < S128x512.size a := fun v5 v7 v9 v11 v13 v15 v17 v19 v60 k0_hw16 => k0_hw16.2.2.2.2.2.2.2.2.2.1
theorem k0_idx251_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v15, v60] : Fin 2 → IVec S16 32) a x).toNat < S128x512.size a := fun v5 v7 v9 v11 v13 v15 v17 v19 v60 k0_hw16 => k0_hw16.2.2.2.2.2.2.2.2.2.2.1
theorem k0_idx252_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v15, v60] : Fin 2 → IVec S16 32) a x).toNat < S128x512.size a := fun v5 v7 v9 v11 v13 v15 v17 v19 v60 k0_hw16 => k0_hw16.2.2.2.2.2.2.2.2.2.2.2.1
theorem k0_idx253_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v17, v60] : Fin 2 → IVec S16 32) a x).toNat < S128x512.size a := fun v5 v7 v9 v11 v13 v15 v17 v19 v60 k0_hw16 => k0_hw16.2.2.2.2.2.2.2.2.2.2.2.2.1
theorem k0_idx254_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v17, v60] : Fin 2 → IVec S16 32) a x).toNat < S128x512.size a := fun v5 v7 v9 v11 v13 v15 v17 v19 v60 k0_hw16 => k0_hw16.2.2.2.2.2.2.2.2.2.2.2.2.2.1
theorem k0_idx255_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v19, v60] : Fin 2 → IVec S16 32) a x).toNat < S128x512.size a := fun v5 v7 v9 v11 v13 v15 v17 v19 v60 k0_hw16 => k0_hw16.2.2.2.2.2.2.2.2.2.2.2.2.2.2.1
theorem k0_idx256_inb : ∀ (v5 : IVec S16 32) (v7 : IVec S16 32) (v9 : IVec S16 32) (v11 : IVec S16 32) (v13 : IVec S16 32) (v15 : IVec S16 32) (v17 : IVec S16 32) (v19 : IVec S16 32) (v60 : IVec S16 32) (k0_hw16 : k0_chk16 v5 v7 v9 v11 v13 v15 v17 v19 v60), ∀ a x, ((![v19, v60] : Fin 2 → IVec S16 32) a x).toNat < S128x512.size a := fun v5 v7 v9 v11 v13 v15 v17 v19 v60 k0_hw16 => k0_hw16.2.2.2.2.2.2.2.2.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x8192 : Shape := ⟨2, ![4096, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Sweep.lean ====
/-
  The running sums of the rows of an array and what one 128 by 512 buffer of it holds as the kernel sweeps the buffer's columns from left to
  right. Everything here is about arrays as functions, at any float values: the sum a row has reached before a column (`acc`), the array of
  all running sums (`sums`), the buffer after `t` columns and `j` groups of sixteen rows of the next one (`part`), the sixteen sums a group
  carries from column to column (`carry`), and the two equations of one group's step: the column gathered and added to what the group carries is
  what it carries next, and that vector scattered back to the column is the buffer with one more group done.
-/
module

public import proofs.«01_k».proof.Defs

@[expose] public section

noncomputable section

namespace Cert.Sweep

open Idealize.ShloMosaic

variable {F : FTy → Type} [FloatOps F]

/-- The shape of the whole array, of one buffer of it, and of a vector of sixteen lanes. -/
abbrev SA : Shape := ⟨2, ![4096, 8192]⟩
abbrev SB : Shape := ⟨2, ![128, 512]⟩
abbrev SL : Shape := ⟨1, ![16]⟩

/-- Element `(r, c)` of the array, the float zero outside it. -/
def at2 (x : Vec F SA .f32) (r c : ℕ) : F .f32 :=
  if h : r < 4096 ∧ c < 8192 then x (fun | 0 => (⟨r, h.1⟩ : Fin 4096) | 1 => (⟨c, h.2⟩ : Fin 8192)) else Scalar.ofBits .f32 0x00000000#32

/-- An element of the array is the one its two coordinates name. -/
theorem at2_self (x : Vec F SA .f32) (i : SA.Idx) : at2 x (i 0).val (i 1).val = x i := by
  unfold at2
  rw [dif_pos ⟨(i 0).isLt, (i 1).isLt⟩]
  congr 1; funext a
  match a with
  | 0 => rfl
  | 1 => rfl

/-- The sum of the first `n` elements of row `r`, added one after another from the left. -/
def acc (x : Vec F SA .f32) (r : ℕ) : ℕ → F .f32
  | 0 => Scalar.ofBits .f32 0x00000000#32
  | n + 1 => FloatOps.addf (acc x r n) (at2 x r n)

/-- The array of all running sums: element `(r, c)` is the sum of the elements `0` to `c` of row `r`. -/
def sums (x : Vec F SA .f32) : Vec F SA .f32 := fun i => acc x (i 0).val ((i 1).val + 1)

/-- The buffer over rows `R` to `R + 127` and columns `C` to `C + 511` once its first `t` columns hold running sums and, of column `t`, the first
    `j` groups of sixteen rows do; the rest still holds the array's own elements. -/
def part (x : Vec F SA .f32) (R C t j : ℕ) : Vec F SB .f32 := fun i =>
  if (i 1).val < t ∨ ((i 1).val = t ∧ (i 0).val < 16 * j) then acc x (R + (i 0).val) (C + (i 1).val + 1) else at2 x (R + (i 0).val) (C + (i 1).val)

/-- What group `j` of sixteen rows carries before column `t` of the buffer: each row's sum so far. -/
def carry (x : Vec F SA .f32) (R C t j : ℕ) : FVec F SL .f32 := fun l => acc x (R + (16 * j + (l 0).val)) (C + t)

/-- A column with all eight groups done is the next column with none done. -/
theorem part_next (x : Vec F SA .f32) (R C t : ℕ) : part x R C t 8 = part x R C (t + 1) 0 := by
  funext i
  have h : (i 0).val < 128 := (i 0).isLt
  unfold part
  refine if_congr ?_ rfl rfl
  omega

/-- What a group carries after the buffer's last column is what it carries before the next buffer's first. -/
theorem carry_next (x : Vec F SA .f32) (R C C' t j : ℕ) (h : C + t = C') : carry x R C t j = carry x R C' 0 j := by
  subst h; rfl

/-- Gathering column `t` for group `j` and adding it to what the group carries is what the group carries next. -/
theorem add_gather (x : Vec F SA .f32) (R C t j : ℕ) (idxs : Fin 2 → IVec SL 32) (h : ∀ a l, (idxs a l).toNat < SB.size a)
    (h0 : ∀ l, (idxs 0 l).toNat = 16 * j + (l 0).val) (h1 : ∀ l, (idxs 1 l).toNat = t) :
    addf (carry x R C t j) (loadIdx (s := SB) (part x R C t j) idxs h) = carry x R C (t + 1) j := by
  funext l
  show FloatOps.addf (acc x _ _) (part x R C t j (idxAt idxs h l)) = acc x (R + (16 * j + (l 0).val)) (C + t + 1)
  have e0 : (idxAt (s := SB) idxs h l 0).val = 16 * j + (l 0).val := h0 l
  have e1 : (idxAt (s := SB) idxs h l 1).val = t := h1 l
  unfold part
  rw [e0, e1, if_neg (by omega)]
  rfl

/-- A left fold whose step, looked at in one place, either puts `w` there or leaves the place alone: the place holds `w` in the
    end if some step hit it, and is untouched if none did. -/
theorem foldl_update {I V K : Type} (step : (I → V) → K → I → V) (i : I) (w : V) (hit : K → Prop)
    (hw : ∀ g k, hit k → step g k i = w) (hn : ∀ g k, ¬ hit k → step g k i = g i) :
    ∀ (L : List K) (g : I → V), ((∃ k ∈ L, hit k) → L.foldl step g i = w) ∧ ((¬ ∃ k ∈ L, hit k) → L.foldl step g i = g i)
  | [], g => ⟨fun ⟨_, hk, _⟩ => absurd hk List.not_mem_nil, fun _ => rfl⟩
  | k :: L, g => by
    have ih := foldl_update step i w hit hw hn L (step g k)
    by_cases hL : ∃ k ∈ L, hit k
    · exact ⟨fun _ => ih.1 hL, fun h => absurd (by obtain ⟨k', hm, hk'⟩ := hL; exact ⟨k', List.mem_cons_of_mem _ hm, hk'⟩) h⟩
    · refine ⟨fun ⟨k', hm, hk'⟩ => ?_, fun h => (ih.2 hL).trans (hn g k fun hk => h ⟨k, List.mem_cons_self, hk⟩)⟩
      rcases List.mem_cons.mp hm with e | hm
      · exact (ih.2 hL).trans (hw g k (e ▸ hk'))
      · exact absurd ⟨k', hm, hk'⟩ hL

/-- An unmasked scatter that overwrites, at an element: if every lane that names it stores `w`, it holds `w` when some lane names it and is
    unchanged when none does. -/
theorem storeIdx_apply {s : Shape} {e : EltTy} {d : Fin 1 → ℕ} (f : Vec F s e) (idxs : Fin s.rank → IVec ⟨1, d⟩ 32) (v : Vec F ⟨1, d⟩ e)
    (h : ∀ a x, (idxs a x).toNat < s.size a) (i : s.Idx) (w : Elt F e)
    (hw : ∀ k : Fin (d 0), (∀ a, (i a).val = (idxs a (Shape.ofLane k)).toNat) → v (Shape.ofLane k) = w) [Decidable (∃ k : Fin (d 0), ∀ a, (i a).val = (idxs a (Shape.ofLane k)).toNat)] :
    storeIdx f idxs v (fun _ => 1#1) false h i
      = if ∃ k : Fin (d 0), ∀ a, (i a).val = (idxs a (Shape.ofLane k)).toNat then w else f i := by
  classical
  unfold storeIdx
  have key := fun st h1 h2 => foldl_update st i w (fun k : Fin (d 0) => ∀ a, (i a).val = (idxs a (Shape.ofLane k)).toNat) h1 h2 (List.finRange (d 0)) f
  by_cases hx : ∃ k : Fin (d 0), ∀ a, (i a).val = (idxs a (Shape.ofLane k)).toNat
  · refine Eq.trans ((key _ (fun g k hk => ?_) (fun g k hk => ?_)).1 (by obtain ⟨k, hk⟩ := hx; exact ⟨k, List.mem_finRange k, hk⟩)) (if_pos hx).symm
    · exact (if_pos hk).trans (hw k hk)
    · exact if_neg hk
  · refine Eq.trans ((key _ (fun g k hk => ?_) (fun g k hk => ?_)).2 (fun ⟨k, _, hk⟩ => hx ⟨k, hk⟩)) (if_neg hx).symm
    · exact (if_pos hk).trans (hw k hk)
    · exact if_neg hk

/-- Scattering what group `j` carries after column `t` back to the column is the buffer with one more group done. -/
theorem scatter_carry (x : Vec F SA .f32) (R C t j : ℕ) (idxs : Fin 2 → IVec SL 32) (h : ∀ a l, (idxs a l).toNat < SB.size a)
    (h0 : ∀ l, (idxs 0 l).toNat = 16 * j + (l 0).val) (h1 : ∀ l, (idxs 1 l).toNat = t) :
    storeIdx (s := SB) (e := .f32) (part x R C t j) idxs (carry x R C (t + 1) j) (fun _ => 1#1) false h = part x R C t (j + 1) := by
  classical
  funext i
  rw [storeIdx_apply (s := SB) (e := .f32) (d := ![16]) (part x R C t j) idxs (carry x R C (t + 1) j) h i
    (acc x (R + (i 0).val) (C + (i 1).val + 1)) (fun k hk => by
      have a0 : (i 0).val = 16 * j + k.val := (hk 0).trans (h0 _)
      have a1 : (i 1).val = t := (hk 1).trans (h1 _)
      show acc x (R + (16 * j + k.val)) (C + (t + 1)) = _
      rw [a0, a1]; rfl)]
  have hex : (∃ k : Fin ((![16] : Fin 1 → ℕ) 0), ∀ a : Fin SB.rank, (i a).val = (idxs a (Shape.ofLane (d := ![16]) k)).toNat)
      ↔ (i 1).val = t ∧ 16 * j ≤ (i 0).val ∧ (i 0).val < 16 * (j + 1) := by
    constructor
    · rintro ⟨k, hk⟩
      have a0 : (i 0).val = 16 * j + k.val := (hk 0).trans (h0 _)
      have a1 : (i 1).val = t := (hk 1).trans (h1 _)
      have : k.val < 16 := k.isLt
      omega
    · rintro ⟨a1, a0, a2⟩
      refine ⟨⟨(i 0).val - 16 * j, show (i 0).val - 16 * j < 16 by omega⟩, fun a => ?_⟩
      match a with
      | 0 => exact (show (i 0).val = 16 * j + ((i 0).val - 16 * j) by omega).trans (h0 (Shape.ofLane (d := ![16]) ⟨(i 0).val - 16 * j, show (i 0).val - 16 * j < 16 by omega⟩)).symm
      | 1 => exact a1.trans (h1 _).symm
  by_cases hc : (i 1).val = t ∧ 16 * j ≤ (i 0).val ∧ (i 0).val < 16 * (j + 1)
  · rw [if_pos (hex.mpr hc)]
    unfold part
    rw [if_pos]
    omega
  · rw [if_neg (fun hh => hc (hex.mp hh))]
    unfold part
    refine if_congr ?_ rfl rfl
    omega

end Cert.Sweep

end
-- ==== Proof.KernelIdealLoop.lean ====
/-
  One column step of the kernel's loop and the loop itself, at any float instance. A tile holds a 128 by 512 buffer; the loop walks its columns
  from left to right and, for each of the eight groups of sixteen rows, gathers the group's part of the column, adds it to the sums the group
  carries and scatters the new sums back. `group_step` is one such group, `trip_step` the eight groups of one column, `loop_step` the 512 columns:
  from the buffer as fetched to the buffer of running sums, and from the sums carried in to the sums carried out.
-/
module

public import proofs.«01_k».proof.Defs
public import proofs.«01_k».proof.Proof.Sweep
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.KernelIdeal

open Cert.KernelIdeal Cert.KernelIdeal.Gen Cert.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ
local notation "sB" => (Memref.whole Cert.KernelIdeal.cc0_scratch0 : Memref Cert.KernelIdeal.sig Kind.scVector Space.vmem Cert.KernelIdeal.S128x512 EltTy.f32)

abbrev 𝒱₀ : Variants := Variants.none
abbrev cV (L : grid0.Coords) : Fin τ.nSC := (L 0).castLE hcore0
abbrev jV (L : grid0.Coords) : Fin τ.nSub := (L 1).castLE hsub0

/-- A program of the tile at `L` run to `Q`. -/
abbrev run (d : Dev nD) (L : grid0.Coords) {α : Type} (p : Prog (TpuEff nD τ sig (Elt F) Λ₀ (.scVector (cV L) (jV L))) α) (Q : α → sProp 𝕄) : sProp 𝕄 :=
  wp frame (wpE (defs₀ (F := F)) 𝒱₀ (V d (cV L) (jV L)) none) Set.univ p Q

/-- The tile's buffer, whole, at contents `f`. -/
abbrev buf (d : Dev nD) (L : grid0.Coords) (f : Vec F S128x512 .f32) : sProp 𝕄 :=
  (V d (cV L) (jV L)).loc cc0_scratch0 ↦{fullShare} f

/-- The sixteen lanes of `v` name the rows of group `j`. -/
def Rows (v : IVec S16 32) (j : ℕ) : Prop := ∀ l : S16.Idx, (v l).toNat = 16 * j + (l 0).val

/-- What the loop carries: the sums of the eight groups. -/
abbrev Carried (F : FTy → Type) : Type :=
  FVec F S16 .f32 × FVec F S16 .f32 × FVec F S16 .f32 × FVec F S16 .f32 × FVec F S16 .f32 × FVec F S16 .f32 × FVec F S16 .f32 × FVec F S16 .f32

section
variable (d : Dev nD) (L : grid0.Coords)

/-- A gather from the buffer. -/
theorem load_step (f : Vec F S128x512 .f32) {α : Type} {Q : α → sProp 𝕄} {idxs : Fin 2 → IVec S16 32}
    {h : ∀ a y, (idxs a y).toNat < S128x512.size a} {hl : (sB).view.Loads}
    {k : FVec F S16 .f32 → Prog (TpuEff nD τ sig (Elt F) Λ₀ (.scVector (cV L) (jV L))) α}
    (hk : buf d L f ⊢ run d L (k (loadIdx (s := S128x512) (e := .f32) f idxs h)) Q) :
    buf d L f ⊢ run d L (SparseCore.vectorLoadIdx sB idxs h hl >>= k) Q := by
  have r := SparseCore.wp_vectorLoadIdx (defs := defs₀ (F := F)) (Q := Q) (k := k) 𝒱₀ (V d (cV L) (jV L)) none Set.univ (s := S128x512) (e := .f32) (base := sB) (idxs := idxs) (h := h) (hl := hl)
    (S := Finset.univ) (q := fullShare) (f := f) (Finset.subset_univ _)
  rw [show ((sB).access (.whole S128x512)).read (Elt F) f = f from Memref.read_access_whole (Elt F) cc0_scratch0 f] at r
  iintro H
  iapply r $$ H
  iintro H
  iapply hk; iexact H

/-- A scatter to the buffer. -/
theorem store_step (f : Vec F S128x512 .f32) {α : Type} {Q : α → sProp 𝕄} {idxs : Fin 2 → IVec S16 32} {v : FVec F S16 .f32} {mask : IVec S16 1}
    {h : ∀ a y, (idxs a y).toNat < S128x512.size a} {hs : ((sB).access (.whole S128x512)).Stores Finset.univ}
    {k : PUnit → Prog (TpuEff nD τ sig (Elt F) Λ₀ (.scVector (cV L) (jV L))) α}
    (hk : buf d L (storeIdx (s := S128x512) (e := .f32) f idxs v mask false h) ⊢ run d L (k ⟨⟩) Q) :
    buf d L f ⊢ run d L (SparseCore.vectorStoreIdx sB idxs v mask false h hs >>= k) Q := by
  have r := SparseCore.wp_vectorStoreIdx (defs := defs₀ (F := F)) (Q := Q) (k := k) 𝒱₀ (V d (cV L) (jV L)) none Set.univ (s := S128x512) (e := .f32) (base := sB) (idxs := idxs) (h := h) (hs := hs)
    (v := v) (mask := mask) (add := false) (f := f)
  rw [show ((sB).access (.whole S128x512)).read (Elt F) f = f from Memref.read_access_whole (Elt F) cc0_scratch0 f,
    show ((sB).access (.whole S128x512)).write (Elt F) f (storeIdx (s := S128x512) (e := .f32) f idxs v mask false h) Finset.univ = storeIdx (s := S128x512) (e := .f32) f idxs v mask false h from
      Memref.write_access_whole_univ (Elt F) cc0_scratch0 f _,
    show ((sB).access (.whole S128x512)).set = Finset.univ from Memref.set_access_whole cc0_scratch0] at r
  iintro H
  iapply r $$ H
  iintro H
  iapply hk; iexact H

/-- One group of one column: gather, add, scatter. What follows starts from the buffer with one more group done, and knows that the sum it
    was handed is what the group carries next. -/
theorem group_step (x : Vec F SA .f32) (R C t j : ℕ) (v w : IVec S16 32) (hv : Rows v j) (hw : ∀ l, (w l).toNat = t)
    {α : Type} {Q : α → sProp 𝕄} {h h' : ∀ a y, ((![v, w] : Fin 2 → IVec S16 32) a y).toNat < S128x512.size a}
    {hl : (sB).view.Loads} {hs : ((sB).access (.whole S128x512)).Stores Finset.univ}
    {g : FVec F S16 .f32 → PUnit → Prog (TpuEff nD τ sig (Elt F) Λ₀ (.scVector (cV L) (jV L))) α}
    (hg : ∀ a, addf (carry x R C t j) a = carry x R C (t + 1) j → buf d L (part x R C t (j + 1)) ⊢ run d L (g a ⟨⟩) Q) :
    buf d L (part x R C t j) ⊢ run d L (SparseCore.vectorLoadIdx sB ![v, w] h hl >>= fun a =>
      SparseCore.vectorStoreIdx sB ![v, w] (addf (carry x R C t j) a) (fun _ => 1#1) false h' hs >>= g a) Q := by
  have h0 : ∀ l, ((![v, w] : Fin 2 → IVec S16 32) 0 l).toNat = 16 * j + (l 0).val := hv
  have h1 : ∀ l, ((![v, w] : Fin 2 → IVec S16 32) 1 l).toNat = t := hw
  have e := add_gather x R C t j ![v, w] h h0 h1
  refine load_step d L _ (store_step d L _ ?_)
  rw [show storeIdx (s := S128x512) (e := .f32) (part x R C t j) ![v, w] (addf (carry x R C t j) (loadIdx (s := S128x512) (e := .f32) (part x R C t j) ![v, w] h))
      (fun _ => 1#1) false h' = part x R C t (j + 1) from by
    rw [e]; exact scatter_carry x R C t j ![v, w] h' h0 h1]
  exact hg _ e

/-- An `assume` at the head, of something that holds. -/
theorem assume_step {Re : sProp 𝕄} {P : Prop} {dec : Decidable P} {α : Type} {Q : α → sProp 𝕄}
    {k : PLift P → Prog (TpuEff nD τ sig (Elt F) Λ₀ (.scVector (cV L) (jV L))) α} (h : P) (hk : Re ⊢ run d L (k ⟨h⟩) Q) :
    Re ⊢ run d L (Prog.lift (TpuEff.assume P dec) >>= k) Q :=
  hk.trans (wp_assume 𝒱₀ (V d (cV L) (jV L)) none Set.univ h)

/-- What the eight groups carry before column `t`. -/
abbrev carries (x : Vec F SA .f32) (R C t : ℕ) : Carried F :=
  (carry x R C t 0, carry x R C t 1, carry x R C t 2, carry x R C t 3, carry x R C t 4, carry x R C t 5, carry x R C t 6, carry x R C t 7)

/-- The eight vectors of row numbers the kernel makes before its loops. -/
structure AllRows (v5 v7 v9 v11 v13 v15 v17 v19 : IVec S16 32) : Prop where
  r0 : Rows v5 0
  r1 : Rows v7 1
  r2 : Rows v9 2
  r3 : Rows v11 3
  r4 : Rows v13 4
  r5 : Rows v15 5
  r6 : Rows v17 6
  r7 : Rows v19 7

/-- One trip of a loop over a buffer's columns, the check `P` it makes first given with what it says. -/
def trip (v5 v7 v9 v11 v13 v15 v17 v19 : IVec S16 32) (P : IVec S16 32 → Prop) (dec : ∀ w, Decidable (P w))
    (hP : ∀ w, P w → k0_chk1 v5 v7 v9 v11 v13 v15 v17 v19 w) (k : ℕ) (acc : Carried F) :
    Prog (TpuEff nD τ sig (Elt F) Λ₀ (.scVector (cV L) (jV L))) (Carried F) := do
  let w : IVec S16 32 := broadcast S16 (Scf.iv 0#32 1#32 k)
  have hc : k0_chk1 v5 v7 v9 v11 v13 v15 v17 v19 w := hP w (← Prog.lift (TpuEff.assume (P w) (dec w))).down
  let a0 : Vec F S16 .f32 ← SparseCore.vectorLoadIdx sB ![v5, w] (k0_idx1_inb v5 v7 v9 v11 v13 v15 v17 v19 w hc) (View.loads_vmem h_S128x512)
  SparseCore.vectorStoreIdx sB ![v5, w] (addf acc.1 a0) (fun _ => 1#1) false (k0_idx2_inb v5 v7 v9 v11 v13 v15 v17 v19 w hc) (View.stores_vmem_bits_univ h_S128x512 rfl)
  let a1 : Vec F S16 .f32 ← SparseCore.vectorLoadIdx sB ![v7, w] (k0_idx3_inb v5 v7 v9 v11 v13 v15 v17 v19 w hc) (View.loads_vmem h_S128x512)
  SparseCore.vectorStoreIdx sB ![v7, w] (addf acc.2.1 a1) (fun _ => 1#1) false (k0_idx4_inb v5 v7 v9 v11 v13 v15 v17 v19 w hc) (View.stores_vmem_bits_univ h_S128x512 rfl)
  let a2 : Vec F S16 .f32 ← SparseCore.vectorLoadIdx sB ![v9, w] (k0_idx5_inb v5 v7 v9 v11 v13 v15 v17 v19 w hc) (View.loads_vmem h_S128x512)
  SparseCore.vectorStoreIdx sB ![v9, w] (addf acc.2.2.1 a2) (fun _ => 1#1) false (k0_idx6_inb v5 v7 v9 v11 v13 v15 v17 v19 w hc) (View.stores_vmem_bits_univ h_S128x512 rfl)
  let a3 : Vec F S16 .f32 ← SparseCore.vectorLoadIdx sB ![v11, w] (k0_idx7_inb v5 v7 v9 v11 v13 v15 v17 v19 w hc) (View.loads_vmem h_S128x512)
  SparseCore.vectorStoreIdx sB ![v11, w] (addf acc.2.2.2.1 a3) (fun _ => 1#1) false (k0_idx8_inb v5 v7 v9 v11 v13 v15 v17 v19 w hc) (View.stores_vmem_bits_univ h_S128x512 rfl)
  let a4 : Vec F S16 .f32 ← SparseCore.vectorLoadIdx sB ![v13, w] (k0_idx9_inb v5 v7 v9 v11 v13 v15 v17 v19 w hc) (View.loads_vmem h_S128x512)
  SparseCore.vectorStoreIdx sB ![v13, w] (addf acc.2.2.2.2.1 a4) (fun _ => 1#1) false (k0_idx10_inb v5 v7 v9 v11 v13 v15 v17 v19 w hc) (View.stores_vmem_bits_univ h_S128x512 rfl)
  let a5 : Vec F S16 .f32 ← SparseCore.vectorLoadIdx sB ![v15, w] (k0_idx11_inb v5 v7 v9 v11 v13 v15 v17 v19 w hc) (View.loads_vmem h_S128x512)
  SparseCore.vectorStoreIdx sB ![v15, w] (addf acc.2.2.2.2.2.1 a5) (fun _ => 1#1) false (k0_idx12_inb v5 v7 v9 v11 v13 v15 v17 v19 w hc) (View.stores_vmem_bits_univ h_S128x512 rfl)
  let a6 : Vec F S16 .f32 ← SparseCore.vectorLoadIdx sB ![v17, w] (k0_idx13_inb v5 v7 v9 v11 v13 v15 v17 v19 w hc) (View.loads_vmem h_S128x512)
  SparseCore.vectorStoreIdx sB ![v17, w] (addf acc.2.2.2.2.2.2.1 a6) (fun _ => 1#1) false (k0_idx14_inb v5 v7 v9 v11 v13 v15 v17 v19 w hc) (View.stores_vmem_bits_univ h_S128x512 rfl)
  let a7 : Vec F S16 .f32 ← SparseCore.vectorLoadIdx sB ![v19, w] (k0_idx15_inb v5 v7 v9 v11 v13 v15 v17 v19 w hc) (View.loads_vmem h_S128x512)
  SparseCore.vectorStoreIdx sB ![v19, w] (addf acc.2.2.2.2.2.2.2  a7) (fun _ => 1#1) false (k0_idx16_inb v5 v7 v9 v11 v13 v15 v17 v19 w hc) (View.stores_vmem_bits_univ h_S128x512 rfl)
  pure (addf acc.1 a0, addf acc.2.1 a1, addf acc.2.2.1 a2, addf acc.2.2.2.1 a3, addf acc.2.2.2.2.1 a4, addf acc.2.2.2.2.2.1 a5, addf acc.2.2.2.2.2.2.1 a6, addf acc.2.2.2.2.2.2.2 a7)

/-- Every lane of the column number of trip `k` is `k`. -/
theorem column (k : ℕ) (hk : k < 512) (l : S16.Idx) : ((broadcast S16 (Scf.iv 0#32 1#32 k) : IVec S16 32) l).toNat = k := by
  show (0#32 + BitVec.ofNat 32 k * 1#32).toNat = k
  simp
  omega

/-- The check every trip makes holds: the rows are below 128 and the column below 512. -/
theorem check (v5 v7 v9 v11 v13 v15 v17 v19 : IVec S16 32) (hv : AllRows v5 v7 v9 v11 v13 v15 v17 v19) (k : ℕ) (hk : k < 512) :
    k0_chk1 v5 v7 v9 v11 v13 v15 v17 v19 (broadcast S16 (Scf.iv 0#32 1#32 k)) := by
  have key : ∀ (v : IVec S16 32) (j : ℕ), Rows v j → j < 8 →
      ∀ a y, ((![v, broadcast S16 (Scf.iv 0#32 1#32 k)] : Fin 2 → IVec S16 32) a y).toNat < S128x512.size a := by
    intro v j hr hj a y
    have hy : (y 0).val < 16 := (y 0).isLt
    match a with
    | 0 => exact lt_of_eq_of_lt (hr y) (show 16 * j + (y 0).val < 128 by omega)
    | 1 => exact lt_of_eq_of_lt (column k hk y) hk
  have b0 := key v5 0 hv.r0 (by decide)
  have b1 := key v7 1 hv.r1 (by decide)
  have b2 := key v9 2 hv.r2 (by decide)
  have b3 := key v11 3 hv.r3 (by decide)
  have b4 := key v13 4 hv.r4 (by decide)
  have b5 := key v15 5 hv.r5 (by decide)
  have b6 := key v17 6 hv.r6 (by decide)
  have b7 := key v19 7 hv.r7 (by decide)
  exact ⟨b0, b0, b1, b1, b2, b2, b3, b3, b4, b4, b5, b5, b6, b6, b7, b7⟩

/-- One column: from the buffer before it and what the groups carry to it, to the buffer and what they carry after it. -/
theorem trip_step (x : Vec F SA .f32) (R C k : ℕ) (hk : k < 512) (v5 v7 v9 v11 v13 v15 v17 v19 : IVec S16 32)
    (hv : AllRows v5 v7 v9 v11 v13 v15 v17 v19) (P : IVec S16 32 → Prop) (dec : ∀ w, Decidable (P w))
    (hP : ∀ w, P w → k0_chk1 v5 v7 v9 v11 v13 v15 v17 v19 w) (hP' : ∀ w, k0_chk1 v5 v7 v9 v11 v13 v15 v17 v19 w → P w) :
    buf d L (part x R C k 0) ⊢ run d L (trip L v5 v7 v9 v11 v13 v15 v17 v19 P dec hP k (carries x R C k))
      fun r => iprop(⌜r = carries x R C (k + 1)⌝ ∗ buf d L (part x R C (k + 1) 0)) := by
  unfold trip
  refine assume_step d L (hP' _ (check _ _ _ _ _ _ _ _ hv k hk)) ?_
  refine group_step d L x R C k 0 v5 _ hv.r0 (column k hk) fun a0 e0 => ?_
  refine group_step d L x R C k 1 v7 _ hv.r1 (column k hk) fun a1 e1 => ?_
  refine group_step d L x R C k 2 v9 _ hv.r2 (column k hk) fun a2 e2 => ?_
  refine group_step d L x R C k 3 v11 _ hv.r3 (column k hk) fun a3 e3 => ?_
  refine group_step d L x R C k 4 v13 _ hv.r4 (column k hk) fun a4 e4 => ?_
  refine group_step d L x R C k 5 v15 _ hv.r5 (column k hk) fun a5 e5 => ?_
  refine group_step d L x R C k 6 v17 _ hv.r6 (column k hk) fun a6 e6 => ?_
  refine group_step d L x R C k 7 v19 _ hv.r7 (column k hk) fun a7 e7 => ?_
  rw [part_next, run, wp_pure]
  iintro H
  imodintro
  isplitr
  · ipureintro
    show (addf (carry x R C k 0) a0, addf (carry x R C k 1) a1, addf (carry x R C k 2) a2, addf (carry x R C k 3) a3,
      addf (carry x R C k 4) a4, addf (carry x R C k 5) a5, addf (carry x R C k 6) a6, addf (carry x R C k 7) a7) = _
    rw [e0, e1, e2, e3, e4, e5, e6, e7]
  · iexact H

/-- A loop over the buffer's columns: from the buffer as fetched to the buffer of running sums, from what the groups carried before it to what they
    carry after it. `Re` is held beside. -/
theorem loop_step (x : Vec F SA .f32) (R C : ℕ) (v5 v7 v9 v11 v13 v15 v17 v19 : IVec S16 32)
    (hv : AllRows v5 v7 v9 v11 v13 v15 v17 v19) (P : IVec S16 32 → Prop) (dec : ∀ w, Decidable (P w))
    (hP : ∀ w, P w → k0_chk1 v5 v7 v9 v11 v13 v15 v17 v19 w) (hP' : ∀ w, k0_chk1 v5 v7 v9 v11 v13 v15 v17 v19 w → P w)
    {Re : sProp 𝕄} {α : Type} {Q : α → sProp 𝕄} {ok : k0_t1_loop.OK} {init : Carried F} (hinit : init = carries x R C 0)
    {body : Fin k0_t1_loop.trips → Carried F → Prog (TpuEff nD τ sig (Elt F) Λ₀ (.scVector (cV L) (jV L))) (Carried F)}
    (hbody : ∀ k acc, body k acc = trip L v5 v7 v9 v11 v13 v15 v17 v19 P dec hP k.val acc)
    {g : Carried F → Prog (TpuEff nD τ sig (Elt F) Λ₀ (.scVector (cV L) (jV L))) α}
    (hg : iprop(buf d L (part x R C 512 0) ∗ Re) ⊢ run d L (g (carries x R C 512)) Q) :
    iprop(buf d L (part x R C 0 0) ∗ Re) ⊢ run d L (Scf.Loop.for k0_t1_loop ok init body >>= g) Q := by
  have htr : k0_t1_loop.trips = 512 := by decide
  subst hinit
  have r := Scf.wp_for_bind Idealize.ShloMosaic.frame (wpE (defs₀ (F := F)) 𝒱₀ (V d (cV L) (jV L)) none) Set.univ k0_t1_loop.lb k0_t1_loop.ub k0_t1_loop.st ok (carries x R C 0) body
    (fun k acc => iprop(⌜acc = carries x R C k⌝ ∗ buf d L (part x R C k 0))) (fun k acc => by
      iintro ⟨%ha, H⟩
      subst ha
      rw [hbody]
      iapply (trip_step d L x R C k.val (lt_of_lt_of_eq k.isLt htr) v5 v7 v9 v11 v13 v15 v17 v19 hv P dec hP hP')
      iexact H) (kk := g) (Q := Q)
  iintro ⟨H, HR⟩
  iapply r $$ [H]
  · isplitr
    · ipureintro; rfl
    · iexact H
  iintro %acc ⟨%ha, H⟩
  subst ha
  rw [show Scf.trips k0_t1_loop.lb k0_t1_loop.ub k0_t1_loop.st = 512 from htr]
  iapply hg
  isplitl [H] <;> iassumption

end

end Cert.Proof.KernelIdeal

end
-- ==== Proof.KernelIdealTile.lean ====
/-
  One tile's task, at any float instance. The tile at core `L 0` and subcore `L 1` has 128 rows of the array, taken in sixteen chunks of 512 columns
  each: fetch the chunk into the buffer, sweep it (`loop_step`), write it out to the result. `fetch_issue`, `fetch_wait` and `write_out` are the copies,
  stated once for any chunk; each part of the printed body is a run of them, and `tile_body` puts the parts together: the array's blocks are kept and the
  result's blocks hold the running sums.
-/
module

public import proofs.«01_k».proof.Proof.KernelIdealLoop

@[expose] public section

noncomputable section

namespace Cert.Proof.KernelIdeal

open Cert.KernelIdeal Cert.KernelIdeal.Gen Cert.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4096x8192 EltTy.f32)
local notation "oV" => (Memref.whole Cert.KernelIdeal.main_v0_scv : Memref Cert.KernelIdeal.sig Kind.scVector Space.hbm Cert.KernelIdeal.S4096x8192 EltTy.f32)
local notation "sB" => (Memref.whole Cert.KernelIdeal.cc0_scratch0 : Memref Cert.KernelIdeal.sig Kind.scVector Space.vmem Cert.KernelIdeal.S128x512 EltTy.f32)

/-- The argument and the result, as locations of device `d`. -/
abbrev xLoc (d : Dev nD) : Loc nD τ sig := (SparseCore.T d).loc main_arg0
abbrev oLoc (d : Dev nD) : Loc nD τ sig := (SparseCore.T d).loc main_v0

/-- The first row of the tile at core `c` and subcore `i`. -/
abbrev row0 (c : Fin 2) (i : Fin 16) : ℕ := 256 * i.val + 128 * c.val

/-- Every chunk's block lies inside the array. -/
theorem off_inb (c : Fin 2) (i k : Fin 16) : ∀ a, (![row0 c i, 512 * k.val] : Fin 2 → ℕ) a + S128x512.size a ≤ S4096x8192.size a := by
  intro a
  match a with
  | 0 => show 256 * i.val + 128 * c.val + 128 ≤ 4096; omega
  | 1 => show 512 * k.val + 512 ≤ 8192; omega

/-- Chunk `k` of that tile's rows, and its elements. -/
abbrev blk (c : Fin 2) (i k : Fin 16) : Rect S4096x8192 := Rect.unit (s := S4096x8192) ![row0 c i, 512 * k.val] S128x512.size (off_inb c i k)
abbrev blkSet (c : Fin 2) (i k : Fin 16) : Finset S4096x8192.Idx := (blk c i k).set

/-- The tile's own coordinates. -/
abbrev cL (L : grid0.Coords) : Fin 2 := L 0
abbrev iL (L : grid0.Coords) : Fin 16 := L 1

section Tile
variable (d : Dev nD) (L : grid0.Coords) (x o : Vec F SA .f32) (O : CellTallies nD τ sig (HIx 1))

/-- Chunk `k` of the argument, at `x`; chunk `k` of the result, at `f`. -/
abbrev xBlk (k : Fin 16) : sProp 𝕄 := xLoc d ↦[blkSet (cL L) (iL L) k]{fullShare} x
abbrev oBlk (k : Fin 16) (f : Vec F SA .f32) : sProp 𝕄 := oLoc d ↦[blkSet (cL L) (iL L) k]{fullShare} f

/-- The result once `n` chunks are written: the first `n` at the running sums, the rest as they were. -/
abbrev oAll (n : ℕ) : sProp 𝕄 := bigSep Finset.univ fun k : Fin 16 => oBlk d L k (if k.val < n then sums x else o)

/-- What the tile holds beside its buffer between copies, `n` chunks written. -/
abbrev Rest (n : ℕ) : sProp 𝕄 :=
  iprop(Transfers.MayWaits (V d (cV L) (jV L)) (default : HIx 1) O ∗ (bigSep Finset.univ fun k : Fin 16 => xBlk d L x k) ∗ oAll d L x o n
    ∗ ownSems0 (V d (cV L) (jV L)) ∗ ∃ W, owes (V d (cV L) (jV L)) O W)

/-- Before a fetch; after the fetch of chunk `n`; after its sweep. -/
abbrev St (n : ℕ) : sProp 𝕄 := iprop((∃ f, buf d L f) ∗ Rest d L x o O n)
abbrev Ld (n : ℕ) : sProp 𝕄 := iprop(buf d L (part x (row0 (cL L) (iL L)) (512 * n) 0 0) ∗ Rest d L x o O n)
abbrev Sw (n : ℕ) : sProp 𝕄 := iprop(buf d L (part x (row0 (cL L) (iL L)) (512 * n) 512 0) ∗ Rest d L x o O n)

abbrev EC : UEmb Counters 𝕄 := countersEmb

/-- While chunk `n` is being fetched on cell `sm`. -/
abbrev Fl (n : Fin 16) (sm : DmaSem sig) : sProp 𝕄 :=
  iprop(Transfers.Flight EC (V d (cV L) (jV L)) (.dma sm) (default : HIx 1) ((sB).view.dmaCredit)
      iprop(buf d L (part x (row0 (cL L) (iL L)) (512 * n.val) 0 0) ∗ xBlk d L x n)
    ∗ Transfers.MayWaits (V d (cV L) (jV L)) (default : HIx 1) O ∗ (bigSep (Finset.univ.erase n) fun k : Fin 16 => xBlk d L x k) ∗ oAll d L x o n.val
    ∗ (bigSep ((ownCells (V d (cV L) (jV L))).erase (V d (cV L) (jV L), .dma sm)) fun g => semVal g 0) ∗ ∃ W, owes (V d (cV L) (jV L)) O W)

/-- A chunk of the argument reads as a buffer none of whose columns is swept. -/
theorem read_chunk (k : Fin 16) (h : ∀ a, (blk (cL L) (iL L) k).stride a = 1) :
    ((xV).slice (blk (cL L) (iL L) k) h).view.read (Elt F) x = part x (row0 (cL L) (iL L)) (512 * k.val) 0 0 := by
  funext i
  have hi0 : (i 0).val < 128 := (i 0).isLt
  have hi1 : (i 1).val < 512 := (i 1).isLt
  unfold part
  rw [if_neg (by omega)]
  refine Eq.trans ?_ (at2_self x ((blk (cL L) (iL L) k).emb i)).symm |>.trans ?_
  · rfl
  · congr 1 <;> (rw [Rect.emb_apply]; simp)

/-- The elements of the argument that a fetch reads are the chunk's block. -/
theorem set_chunk_x (k : Fin 16) (h : ∀ a, (blk (cL L) (iL L) k).stride a = 1) :
    ((xV).slice (blk (cL L) (iL L) k) h).view.set = blkSet (cL L) (iL L) k := View.set_slice_whole main_arg0_scv (blk (cL L) (iL L) k)
/-- The elements of the result that a copy out writes are the chunk's block. -/
theorem set_chunk_o (k : Fin 16) (h : ∀ a, (blk (cL L) (iL L) k).stride a = 1) :
    ((oV).slice (blk (cL L) (iL L) k) h).view.set = blkSet (cL L) (iL L) k := View.set_slice_whole main_v0_scv (blk (cL L) (iL L) k)

/-- A scoped cell of the tile is one of its own. -/
theorem own_cell (sm : DmaSem sig) (hsm : (SemLoc.dma sm : SemLoc sig).isScoped .scVector = true) :
    ((V d (cV L) (jV L), .dma sm) : GSem nD τ sig) ∈ ownCells (V d (cV L) (jV L)) := mem_ownCells.mpr ⟨rfl, hsm⟩

/-- The tile's own cells at zero are one of them and the others. -/
theorem own_cells (sm : DmaSem sig) (hsm : (SemLoc.dma sm : SemLoc sig).isScoped .scVector = true) :
    (ownSems0 (V d (cV L) (jV L)) : sProp 𝕄)
      = iprop(semVal ((V d (cV L) (jV L), .dma sm) : GSem nD τ sig) 0 ∗ bigSep ((ownCells (V d (cV L) (jV L))).erase (V d (cV L) (jV L), .dma sm)) fun g => semVal g 0) := by
  unfold SparseCore.Cfg.ownSems0
  exact SparseCore.bigSep_erase' (own_cell d L sm hsm)

/-- The fetch of chunk `n` is issued. -/
theorem fetch_issue (n : Fin 16) {m : ℕ} (hm : m = n.val) {off : Fin 2 → ℕ} (hoff : off = ![row0 (cL L) (iL L), 512 * n.val])
    {inb : ∀ a, off a + S128x512.size a ≤ S4096x8192.size a} {hst : ∀ a, (Rect.unit (s := S4096x8192) off S128x512.size inb).stride a = 1}
    (sm : DmaSem sig) (hsm : (SemLoc.dma sm : SemLoc sig).isScoped .scVector = true)
    {h1 : ((xV).slice (Rect.unit (s := S4096x8192) off S128x512.size inb) hst).view.WordExact} {h2 : (sB).view.WordExact}
    {h3 : DmaTarget.Typed (nD := nD) (p := .scVector (cV L) (jV L)) .hbm (.dma sm) (.here (sB))}
    {α : Type} {Q : α → sProp 𝕄} {g : PUnit → Prog (TpuEff nD τ sig (Elt F) Λ₀ (.scVector (cV L) (jV L))) α}
    (hg : Fl d L x o O n sm ⊢ run d L (g ⟨⟩) Q) :
    St d L x o O m ⊢ run d L (Prog.lift (.enqueueDma ((xV).slice (Rect.unit (s := S4096x8192) off S128x512.size inb) hst) (.here (sB)) (.dma sm) h1 h2 h3) >>= g) Q := by
  subst hoff hm
  iintro ⟨⟨%f, Hb⟩, Hmw, Hx, Ho, Hs, HO⟩
  ihave Hx' := (Entails.of_eq (SparseCore.bigSep_erase' (Finset.mem_univ n))) $$ Hx
  icases Hx' with ⟨Hn, Hx⟩
  ihave Hs' := (Entails.of_eq (own_cells d L sm hsm)) $$ Hs
  icases Hs' with ⟨Hv, Hs⟩
  have r := Transfers.wp_dmaLocal (defs := defs₀ (F := F)) (Q := Q) (k := g) EC 𝒱₀ (V d (cV L) (jV L)) none
    (src := (xV).slice (blk (cL L) (iL L) n) hst) (dst := sB) (via := ReadAs.same) (sm := .dma sm) (hsrc := h1) (hdst := h2) (hsem := h3) (q := fullShare) (fs := x)
    (Sd := Finset.univ) (fd := f) (default : HIx 1) ((sB).view.dmaCredit) rfl (View.dmaCredit_pos _ (by decide)) (Finset.subset_univ _)
  rw [show (sB).view.write (Elt F) f ((ReadAs.same (Val := Elt F) : ReadAs (Elt F) S128x512 .f32 S128x512 .f32).apply (((xV).slice (blk (cL L) (iL L) n) hst).view.read (Elt F) x)) Finset.univ
      = part x (row0 (cL L) (iL L)) (512 * n.val) 0 0 from
    (View.write_whole_univ cc0_scratch0 f _).trans (read_chunk L x n hst), set_chunk_x L n hst] at r
  iapply r $$ [Hn Hb Hv]
  · isplitl [Hn]; · iexact Hn
    isplitl [Hb]; · iexact Hb
    iexact Hv
  iintro Hf
  iapply hg
  isplitl [Hf]; · iexact Hf
  isplitl [Hmw]; · iexact Hmw
  isplitl [Hx]; · iexact Hx
  isplitl [Ho]; · iexact Ho
  isplitl [Hs] <;> iassumption

/-- The wait for the fetch of chunk `n`. -/
theorem fetch_wait (n : Fin 16) {m : ℕ} (hm : m = n.val) (sm : DmaSem sig) (hsm : (SemLoc.dma sm : SemLoc sig).isScoped .scVector = true)
    {src : Memref sig .scVector .hbm S128x512 .f32} {h1 : src.view.WordExact} {h2 : (sB).view.WordExact}
    {α : Type} {Q : α → sProp 𝕄} {g : PUnit → Prog (TpuEff nD τ sig (Elt F) Λ₀ (.scVector (cV L) (jV L))) α}
    (hg : Ld d L x o O m ⊢ run d L (g ⟨⟩) Q) :
    Fl d L x o O n sm ⊢ run d L (Prog.lift (.waitDma2 sm src sB h1 h2) >>= g) Q := by
  subst hm
  iintro ⟨Hf, #Hmw, Hx, Ho, Hs, ⟨%W, HO⟩⟩
  have r := Transfers.wp_waitLocalO (defs := defs₀ (F := F)) (Q := Q) (k := g) EC 𝒱₀ (V d (cV L) (jV L)) none
    (srcw := src) (dstw := sB) (sem := sm) (hsrc := h1) (hdst := h2) (default : HIx 1) (N := (sB).view.dmaCredit) rfl
    (D := iprop(buf d L (part x (row0 (cL L) (iL L)) (512 * n.val) 0 0) ∗ xBlk d L x n)) (O := O) (W := W)
  iapply r $$ [Hf HO]
  · isplitl [Hf]; · iexact Hf
    isplitl [HO]; · iexact HO
    iapply (Transfers.MayWaits.elim (.dma sm)); iexact Hmw
  iintro ⟨⟨Hb, Hn⟩, Hv, HO⟩
  iapply hg
  isplitl [Hb]; · iexact Hb
  isplitr; · iexact Hmw
  isplitl [Hx Hn]
  · iapply (Entails.of_eq (SparseCore.bigSep_erase' (Finset.mem_univ n)).symm)
    isplitl [Hn] <;> iassumption
  isplitl [Ho]; · iexact Ho
  isplitl [Hs Hv]
  · iapply (Entails.of_eq (own_cells d L sm hsm).symm)
    isplitl [Hv] <;> iassumption
  iexists _; iexact HO

/-- Chunk `n` of the result at a swept buffer is that chunk at the running sums. -/
theorem written (n : Fin 16) (h : ∀ a, (blk (cL L) (iL L) n).stride a = 1) :
    (oLoc d ↦[blkSet (cL L) (iL L) n]{fullShare}
        (((oV).slice (blk (cL L) (iL L) n) h).view.write (Elt F) o (part x (row0 (cL L) (iL L)) (512 * n.val) 512 0) Finset.univ) : sProp 𝕄)
      = oBlk d L n (sums x) := by
  refine pointsTo_congr fun i hi => ?_
  have hi' : i ∈ ((oV).slice (blk (cL L) (iL L) n) h).view.set := by rw [set_chunk_o]; exact hi
  obtain ⟨j, -, rfl⟩ := Finset.mem_map.mp hi'
  have hj1 : (j 1).val < 512 := (j 1).isLt
  refine (View.write_emb_of_mem (v := ((oV).slice (blk (cL L) (iL L) n) h).view) (Val := Elt F) (f := o) (w := part x (row0 (cL L) (iL L)) (512 * n.val) 512 0) (M := Finset.univ) (Finset.mem_univ j)).trans ?_
  unfold part sums
  rw [if_pos (Or.inl hj1)]
  have e0 : ((((oV).slice (blk (cL L) (iL L) n) h).view.emb j) 0).val = row0 (cL L) (iL L) + (j 0).val := by
    show ((blk (cL L) (iL L) n).emb j 0).val = _
    rw [Rect.emb_apply]; simp
  have e1 : ((((oV).slice (blk (cL L) (iL L) n) h).view.emb j) 1).val = 512 * n.val + (j 1).val := by
    show ((blk (cL L) (iL L) n).emb j 1).val = _
    rw [Rect.emb_apply]; simp
  exact (congrArg₂ (acc x) e0 (congrArg (· + 1) e1)).symm

/-- The result with one more chunk written. -/
theorem oAll_succ (n : Fin 16) :
    iprop(oBlk d L n (sums x) ∗ bigSep (Finset.univ.erase n) fun k : Fin 16 => oBlk d L k (if k.val < n.val then sums x else o)) ⊢ oAll d L x o (n.val + 1) := by
  have e : (bigSep (Finset.univ.erase n) fun k : Fin 16 => oBlk d L k (if k.val < n.val then sums x else o))
      = bigSep (Finset.univ.erase n) fun k : Fin 16 => oBlk d L k (if k.val < n.val + 1 then sums x else o) :=
    bigSep_congr fun k hk => by
      have hne : k.val ≠ n.val := fun e => (Finset.mem_erase.mp hk).1 (Fin.ext e)
      rw [if_congr (show k.val < n.val ↔ k.val < n.val + 1 by omega) rfl rfl]
  have e' := SparseCore.bigSep_erase' (Φ := fun k : Fin 16 => oBlk (F := F) d L k (if k.val < n.val + 1 then sums x else o)) (Finset.mem_univ n)
  simp only [if_pos (Nat.lt_succ_self _)] at e'
  rw [e]
  exact Entails.of_eq e'.symm

/-- The swept buffer of chunk `n` is written out and the copy waited for. -/
theorem write_out (n : Fin 16) {m m' : ℕ} (hm : m = n.val) (hm' : m' = n.val + 1) {off : Fin 2 → ℕ} (hoff : off = ![row0 (cL L) (iL L), 512 * n.val])
    {inb : ∀ a, off a + S128x512.size a ≤ S4096x8192.size a} {hst : ∀ a, (Rect.unit (s := S4096x8192) off S128x512.size inb).stride a = 1}
    (sm : DmaSem sig) (hsm : (SemLoc.dma sm : SemLoc sig).isScoped .scVector = true)
    {h1 h5 : (sB).view.WordExact} {h2 h6 : ((oV).slice (Rect.unit (s := S4096x8192) off S128x512.size inb) hst).view.WordExact}
    {h3 : DmaTarget.Typed (nD := nD) (p := .scVector (cV L) (jV L)) .vmem (.dma sm) (.here ((oV).slice (Rect.unit (s := S4096x8192) off S128x512.size inb) hst))}
    {α : Type} {Q : α → sProp 𝕄} {g : PUnit → Prog (TpuEff nD τ sig (Elt F) Λ₀ (.scVector (cV L) (jV L))) α}
    (hg : St d L x o O m' ⊢ run d L (g ⟨⟩) Q) :
    Sw d L x o O m ⊢ run d L (Prog.lift (.enqueueDma (sB) (.here ((oV).slice (Rect.unit (s := S4096x8192) off S128x512.size inb) hst)) (.dma sm) h1 h2 h3) >>= fun _ =>
      Prog.lift (.waitDma2 sm sB ((oV).slice (Rect.unit (s := S4096x8192) off S128x512.size inb) hst) h5 h6) >>= g) Q := by
  subst hoff hm hm'
  iintro ⟨Hb, #Hmw, Hx, Ho, Hs, ⟨%W, HO⟩⟩
  ihave Ho' := (Entails.of_eq (SparseCore.bigSep_erase' (Finset.mem_univ n))) $$ Ho
  icases Ho' with ⟨Hn, Ho⟩
  ihave Hs' := (Entails.of_eq (own_cells d L sm hsm)) $$ Hs
  icases Hs' with ⟨Hv, Hs⟩
  have hr : (sB).view.read (Elt F) (part x (row0 (cL L) (iL L)) (512 * n.val) 512 0) = part x (row0 (cL L) (iL L)) (512 * n.val) 512 0 := View.read_whole cc0_scratch0 _
  have r := Transfers.wp_dmaLocal (defs := defs₀ (F := F)) (Q := Q)
    (k := fun _ => Prog.lift (.waitDma2 sm sB ((oV).slice (blk (cL L) (iL L) n) hst) h5 h6) >>= g) EC 𝒱₀ (V d (cV L) (jV L)) none
    (src := sB) (dst := (oV).slice (blk (cL L) (iL L) n) hst) (via := ReadAs.same) (sm := .dma sm) (hsrc := h1) (hdst := h2) (hsem := h3) (q := fullShare)
    (fs := part x (row0 (cL L) (iL L)) (512 * n.val) 512 0)
    (Sd := blkSet (cL L) (iL L) n) (fd := o) (default : HIx 1) (((oV).slice (blk (cL L) (iL L) n) hst).view.dmaCredit) rfl (View.dmaCredit_pos _ (show 0 < S128x512.numel by decide))
    (by rw [set_chunk_o])
  rw [ReadAs.apply_same, hr, written, show (sB).view.set = Finset.univ from View.set_whole cc0_scratch0] at r
  rw [if_neg (Nat.lt_irrefl _)]
  iapply r $$ [Hn Hb Hv]
  · isplitl [Hb]; · iexact Hb
    isplitl [Hn]; · iexact Hn
    iexact Hv
  iintro Hf
  have r' := Transfers.wp_waitLocalO (defs := defs₀ (F := F)) (Q := Q) (k := g) EC 𝒱₀ (V d (cV L) (jV L)) none
    (srcw := sB) (dstw := (oV).slice (blk (cL L) (iL L) n) hst) (sem := sm) (hsrc := h5) (hdst := h6) (default : HIx 1) (N := ((oV).slice (blk (cL L) (iL L) n) hst).view.dmaCredit) rfl
    (D := iprop(oBlk d L n (sums x) ∗ buf d L (part x (row0 (cL L) (iL L)) (512 * n.val) 512 0))) (O := O) (W := W)
  iapply r' $$ [Hf HO]
  · isplitl [Hf]; · iexact Hf
    isplitl [HO]; · iexact HO
    iapply (Transfers.MayWaits.elim (.dma sm)); iexact Hmw
  iintro ⟨⟨Hn, Hb⟩, Hv, HO⟩
  iapply hg
  isplitl [Hb]; · iexists _; iexact Hb
  isplitr; · iexact Hmw
  isplitl [Hx]; · iexact Hx
  isplitl [Ho Hn]
  · iapply (oAll_succ d L x o n)
    isplitl [Hn] <;> iassumption
  isplitl [Hs Hv]
  · iapply (Entails.of_eq (own_cells d L sm hsm).symm)
    isplitl [Hv] <;> iassumption
  iexists _; iexact HO

/-- What the groups carry out of one chunk is what they carry into the next. -/
theorem carries_next (R n : ℕ) : carries x R (512 * n) 512 = carries x R (512 * (n + 1)) 0 := by
  unfold carries
  simp only [carry_next x R (512 * n) (512 * (n + 1)) 512 _ rfl]

/-- From chunk `n` swept to chunk `n + 1` swept: chunk `n` is written out, chunk `n + 1` is fetched and its 512 columns are swept. -/
theorem chunk_step (n : ℕ) (hn : n + 1 < 16) (v5 v7 v9 v11 v13 v15 v17 v19 : IVec S16 32)
    (hv : AllRows v5 v7 v9 v11 v13 v15 v17 v19) (P : IVec S16 32 → Prop) (dec : ∀ w, Decidable (P w))
    (hP : ∀ w, P w → k0_chk1 v5 v7 v9 v11 v13 v15 v17 v19 w) (hP' : ∀ w, k0_chk1 v5 v7 v9 v11 v13 v15 v17 v19 w → P w)
    {off off' : Fin 2 → ℕ} (hoff : off = ![row0 (cL L) (iL L), 512 * n]) (hoff' : off' = ![row0 (cL L) (iL L), 512 * (n + 1)])
    {inb : ∀ a, off a + S128x512.size a ≤ S4096x8192.size a} {hst : ∀ a, (Rect.unit (s := S4096x8192) off S128x512.size inb).stride a = 1}
    {inb' : ∀ a, off' a + S128x512.size a ≤ S4096x8192.size a} {hst' : ∀ a, (Rect.unit (s := S4096x8192) off' S128x512.size inb').stride a = 1}
    (so sf : DmaSem sig) (hso : (SemLoc.dma so : SemLoc sig).isScoped .scVector = true) (hsf : (SemLoc.dma sf : SemLoc sig).isScoped .scVector = true)
    {h1 h5 i2 i6 : (sB).view.WordExact} {h2 h6 : ((oV).slice (Rect.unit (s := S4096x8192) off S128x512.size inb) hst).view.WordExact}
    {h3 : DmaTarget.Typed (nD := nD) (p := .scVector (cV L) (jV L)) .vmem (.dma so) (.here ((oV).slice (Rect.unit (s := S4096x8192) off S128x512.size inb) hst))}
    {i1 i5 : ((xV).slice (Rect.unit (s := S4096x8192) off' S128x512.size inb') hst').view.WordExact}
    {i3 : DmaTarget.Typed (nD := nD) (p := .scVector (cV L) (jV L)) .hbm (.dma sf) (.here (sB))}
    {α : Type} {Q : α → sProp 𝕄} {ok : k0_t1_loop.OK} {init : Carried F} (hinit : init = carries x (row0 (cL L) (iL L)) (512 * n) 512)
    {body : Fin k0_t1_loop.trips → Carried F → Prog (TpuEff nD τ sig (Elt F) Λ₀ (.scVector (cV L) (jV L))) (Carried F)}
    (hbody : ∀ k acc, body k acc = trip L v5 v7 v9 v11 v13 v15 v17 v19 P dec hP k.val acc)
    {g : Carried F → Prog (TpuEff nD τ sig (Elt F) Λ₀ (.scVector (cV L) (jV L))) α}
    (hg : Sw d L x o O (n + 1) ⊢ run d L (g (carries x (row0 (cL L) (iL L)) (512 * (n + 1)) 512)) Q) :
    Sw d L x o O n ⊢ run d L (Prog.lift (.enqueueDma (sB) (.here ((oV).slice (Rect.unit (s := S4096x8192) off S128x512.size inb) hst)) (.dma so) h1 h2 h3) >>= fun _ =>
      Prog.lift (.waitDma2 so sB ((oV).slice (Rect.unit (s := S4096x8192) off S128x512.size inb) hst) h5 h6) >>= fun _ =>
      Prog.lift (.enqueueDma ((xV).slice (Rect.unit (s := S4096x8192) off' S128x512.size inb') hst') (.here (sB)) (.dma sf) i1 i2 i3) >>= fun _ =>
      Prog.lift (.waitDma2 sf ((xV).slice (Rect.unit (s := S4096x8192) off' S128x512.size inb') hst') sB i5 i6) >>= fun _ =>
      Scf.Loop.for k0_t1_loop ok init body >>= g) Q := by
  refine write_out d L x o O ⟨n, by omega⟩ rfl rfl hoff so hso ?_
  refine fetch_issue d L x o O ⟨n + 1, hn⟩ rfl hoff' sf hsf ?_
  refine fetch_wait d L x o O ⟨n + 1, hn⟩ rfl sf hsf ?_
  exact loop_step d L x _ (512 * (n + 1)) v5 v7 v9 v11 v13 v15 v17 v19 hv P dec hP hP' (hinit.trans (carries_next x _ n)) hbody hg

/-- What a part of the body leaves that ends with chunk `n` swept: the sums the groups carry, beside what holds there. -/
abbrev Done (n : ℕ) (st : sProp 𝕄) (r : Σ' (_ : FVec F S16 .f32) (_ : FVec F S16 .f32) (_ : FVec F S16 .f32) (_ : FVec F S16 .f32) (_ : FVec F S16 .f32) (_ : FVec F S16 .f32) (_ : FVec F S16 .f32), FVec F S16 .f32) : sProp 𝕄 :=
  iprop(⌜(r.1, r.2.1, r.2.2.1, r.2.2.2.1, r.2.2.2.2.1, r.2.2.2.2.2.1, r.2.2.2.2.2.2.1, r.2.2.2.2.2.2.2) = carries x (row0 (cL L) (iL L)) (512 * n) 512⌝ ∗ st)

/-- A part ends by returning. -/
theorem pure_step {α : Type} {Q : α → sProp 𝕄} {P : sProp 𝕄} (a : α) (h : P ⊢ Q a) : P ⊢ run d L (pure a) Q := by
  iintro H
  simp only [run]
  rw [wp_pure]
  imodintro
  iapply h; iexact H

/-- The sums after chunk `n` are what a part that ends there returns. -/
theorem done (n : ℕ) (st : sProp 𝕄) : st ⊢ Done L x n st
    ⟨carry x (row0 (cL L) (iL L)) (512 * n) 512 0, carry x (row0 (cL L) (iL L)) (512 * n) 512 1, carry x (row0 (cL L) (iL L)) (512 * n) 512 2,
      carry x (row0 (cL L) (iL L)) (512 * n) 512 3, carry x (row0 (cL L) (iL L)) (512 * n) 512 4, carry x (row0 (cL L) (iL L)) (512 * n) 512 5,
      carry x (row0 (cL L) (iL L)) (512 * n) 512 6, carry x (row0 (cL L) (iL L)) (512 * n) 512 7⟩ := by
  iintro H
  isplitr
  · ipureintro; rfl
  · iexact H

/-- Chunks 0 to 2 swept, 0 and 1 written out. -/
theorem part2 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 0) 0) :
    Ld d L x o O 0 ⊢ run d L (k0_part2 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7 0#32 512#32)
      (Done L x 2 (Sw d L x o O 2)) := by
  unfold k0_part2
  refine loop_step d L x _ (512 * 0) v5 v7 v9 v11 v13 v15 v17 v19 hv (k0_chk1 v5 v7 v9 v11 v13 v15 v17 v19) (k0_chk1.dec v5 v7 v9 v11 v13 v15 v17 v19)
    (fun _ h => h) (fun _ h => h) hc (fun _ _ => rfl) ?_
  refine chunk_step d L x o O 0 (by decide) v5 v7 v9 v11 v13 v15 v17 v19 hv (k0_chk2 v5 v7 v9 v11 v13 v15 v17 v19) (k0_chk2.dec v5 v7 v9 v11 v13 v15 v17 v19)
    (fun _ h => h) (fun _ h => h) (k0_off2_eq L) (k0_off3_eq L) cc0_scoped1.sem cc0_scoped2.sem rfl rfl rfl (fun _ _ => rfl) ?_
  refine chunk_step d L x o O 1 (by decide) v5 v7 v9 v11 v13 v15 v17 v19 hv (k0_chk3 v5 v7 v9 v11 v13 v15 v17 v19) (k0_chk3.dec v5 v7 v9 v11 v13 v15 v17 v19)
    (fun _ h => h) (fun _ h => h) (k0_off3_eq L) (k0_off4_eq L) cc0_scoped3.sem cc0_scoped4.sem rfl rfl rfl (fun _ _ => rfl) ?_
  exact pure_step d L _ (done L x _ _)

/-- Chunks 3 and 4. -/
theorem part3 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 2) 512) :
    Sw d L x o O 2 ⊢ run d L (k0_part3 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7)
      (Done L x 4 (St d L x o O 5)) := by
  unfold k0_part3
  refine chunk_step d L x o O 2 (by decide) v5 v7 v9 v11 v13 v15 v17 v19 hv (k0_chk4 v5 v7 v9 v11 v13 v15 v17 v19) (k0_chk4.dec v5 v7 v9 v11 v13 v15 v17 v19)
    (fun _ h => h) (fun _ h => h) (k0_off4_eq L) (k0_off5_eq L) cc0_scoped5.sem cc0_scoped6.sem rfl rfl hc (fun _ _ => rfl) ?_
  refine chunk_step d L x o O 3 (by decide) v5 v7 v9 v11 v13 v15 v17 v19 hv (k0_chk5 v5 v7 v9 v11 v13 v15 v17 v19) (k0_chk5.dec v5 v7 v9 v11 v13 v15 v17 v19)
    (fun _ h => h) (fun _ h => h) (k0_off5_eq L) (k0_off6_eq L) cc0_scoped7.sem cc0_scoped8.sem rfl rfl rfl (fun _ _ => rfl) ?_
  refine write_out d L x o O 4 rfl rfl (k0_off6_eq L) cc0_scoped9.sem rfl ?_
  exact pure_step d L _ (done L x _ _)

/-- Chunks 5 and 6, and the fetch of 7. -/
theorem part4 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 4) 512) :
    St d L x o O 5 ⊢ run d L (k0_part4 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7)
      (Done L x 6 (Ld d L x o O 7)) := by
  unfold k0_part4
  refine fetch_issue d L x o O 5 rfl (k0_off7_eq L) cc0_scoped10.sem rfl ?_
  refine fetch_wait d L x o O 5 rfl cc0_scoped10.sem rfl ?_
  refine loop_step d L x _ (512 * 5) v5 v7 v9 v11 v13 v15 v17 v19 hv (k0_chk6 v5 v7 v9 v11 v13 v15 v17 v19) (k0_chk6.dec v5 v7 v9 v11 v13 v15 v17 v19)
    (fun _ h => h) (fun _ h => h) (hc.trans (carries_next x _ 4)) (fun _ _ => rfl) ?_
  refine chunk_step d L x o O 5 (by decide) v5 v7 v9 v11 v13 v15 v17 v19 hv (k0_chk7 v5 v7 v9 v11 v13 v15 v17 v19) (k0_chk7.dec v5 v7 v9 v11 v13 v15 v17 v19)
    (fun _ h => h) (fun _ h => h) (k0_off7_eq L) (k0_off8_eq L) cc0_scoped11.sem cc0_scoped12.sem rfl rfl rfl (fun _ _ => rfl) ?_
  refine write_out d L x o O 6 rfl rfl (k0_off8_eq L) cc0_scoped13.sem rfl ?_
  refine fetch_issue d L x o O 7 rfl (k0_off9_eq L) cc0_scoped14.sem rfl ?_
  refine fetch_wait d L x o O 7 rfl cc0_scoped14.sem rfl ?_
  exact pure_step d L _ (done L x _ _)

/-- Chunks 7 to 9 swept, 7 and 8 written out. -/
theorem part5 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 6) 512) :
    Ld d L x o O 7 ⊢ run d L (k0_part5 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7)
      (Done L x 9 (Sw d L x o O 9)) := by
  unfold k0_part5
  refine loop_step d L x _ (512 * 7) v5 v7 v9 v11 v13 v15 v17 v19 hv (k0_chk8 v5 v7 v9 v11 v13 v15 v17 v19) (k0_chk8.dec v5 v7 v9 v11 v13 v15 v17 v19)
    (fun _ h => h) (fun _ h => h) (hc.trans (carries_next x _ 6)) (fun _ _ => rfl) ?_
  refine chunk_step d L x o O 7 (by decide) v5 v7 v9 v11 v13 v15 v17 v19 hv (k0_chk9 v5 v7 v9 v11 v13 v15 v17 v19) (k0_chk9.dec v5 v7 v9 v11 v13 v15 v17 v19)
    (fun _ h => h) (fun _ h => h) (k0_off9_eq L) (k0_off10_eq L) cc0_scoped15.sem cc0_scoped16.sem rfl rfl rfl (fun _ _ => rfl) ?_
  refine chunk_step d L x o O 8 (by decide) v5 v7 v9 v11 v13 v15 v17 v19 hv (k0_chk10 v5 v7 v9 v11 v13 v15 v17 v19) (k0_chk10.dec v5 v7 v9 v11 v13 v15 v17 v19)
    (fun _ h => h) (fun _ h => h) (k0_off10_eq L) (k0_off11_eq L) cc0_scoped17.sem cc0_scoped18.sem rfl rfl rfl (fun _ _ => rfl) ?_
  exact pure_step d L _ (done L x _ _)

/-- Chunks 10 and 11. -/
theorem part6 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 9) 512) :
    Sw d L x o O 9 ⊢ run d L (k0_part6 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7)
      (Done L x 11 (St d L x o O 12)) := by
  unfold k0_part6
  refine chunk_step d L x o O 9 (by decide) v5 v7 v9 v11 v13 v15 v17 v19 hv (k0_chk11 v5 v7 v9 v11 v13 v15 v17 v19) (k0_chk11.dec v5 v7 v9 v11 v13 v15 v17 v19)
    (fun _ h => h) (fun _ h => h) (k0_off11_eq L) (k0_off12_eq L) cc0_scoped19.sem cc0_scoped20.sem rfl rfl hc (fun _ _ => rfl) ?_
  refine chunk_step d L x o O 10 (by decide) v5 v7 v9 v11 v13 v15 v17 v19 hv (k0_chk12 v5 v7 v9 v11 v13 v15 v17 v19) (k0_chk12.dec v5 v7 v9 v11 v13 v15 v17 v19)
    (fun _ h => h) (fun _ h => h) (k0_off12_eq L) (k0_off13_eq L) cc0_scoped21.sem cc0_scoped22.sem rfl rfl rfl (fun _ _ => rfl) ?_
  refine write_out d L x o O 11 rfl rfl (k0_off13_eq L) cc0_scoped23.sem rfl ?_
  exact pure_step d L _ (done L x _ _)

/-- Chunks 12 and 13, and the issue of the fetch of 14. -/
theorem part7 (v5 v7 v9 v11 v13 v15 v17 v19 : IVec S16 32) (hv : AllRows v5 v7 v9 v11 v13 v15 v17 v19)
    (c0 c1 c2 c3 c4 c5 c6 c7 : FVec F S16 .f32) (hc : (c0, c1, c2, c3, c4, c5, c6, c7) = carries x (row0 (cL L) (iL L)) (512 * 11) 512) :
    St d L x o O 12 ⊢ run d L (k0_part7 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 v5 v7 v9 v11 v13 v15 v17 v19 c0 c1 c2 c3 c4 c5 c6 c7)
      (Done L x 13 (Fl d L x o O 14 cc0_scoped28.sem)) := by
  unfold k0_part7
  refine fetch_issue d L x o O 12 rfl (k0_off14_eq L) cc0_scoped24.sem rfl ?_
  refine fetch_wait d L x o O 12 rfl cc0_scoped24.sem rfl ?_
  refine loop_step d L x _ (512 * 12) v5 v7 v9 v11 v13 v15 v17 v19 hv (k0_chk13 v5 v7 v9 v11 v13 v15 v17 v19) (k0_chk13.dec v5 v7 v9 v11 v13 v15 v17 v19)
    (fun _ h => h) (fun _ h => h) (hc.trans (carries_next x _ 11)) (fun _ _ => rfl) ?_
  refine chunk_step d L x o O 12 (by decide) v5 v7 v9 v11 v13 v15 v17 v19 hv (k0_chk14 v5 v7 v9 v11 v13 v15 v17 v19) (k0_chk14.dec v5 v7 v9 v11 v13 v15 v17 v19)
    (fun _ h => h) (fun _ h => h) (k0_off14_eq L) (k0_off15_eq L) cc0_scoped25.sem cc0_scoped26.sem rfl rfl rfl (fun _ _ => rfl) ?_
  refine write_out d L x o O 13 rfl rfl (k0_off15_eq L) cc0_scoped27.sem rfl ?_
  refine fetch_issue d L x o O 14 rfl (k0_off16_eq L) cc0_scoped28.sem rfl ?_
  exact pure_step d L _ (done L x _ _)

/-- A vector of row numbers: the lane numbers moved by `16 * j`. -/
theorem rows_iota (j : ℕ) (hj : j < 8) {w : BitVec 32} (hw : w.toNat = 16 * j) :
    Rows (addi (iota .scVector S16 32 [0] iota_S16_d0_w32_scVector) (broadcast S16 w)) j := by
  intro l
  have hl : (l 0).val < 16 := (l 0).isLt
  show (BitVec.ofNat 32 (0 * 16 + (l 0).val) + w).toNat = _
  rw [BitVec.toNat_add, BitVec.toNat_ofNat, hw]
  omega

/-- What the first part leaves: the row numbers, zero sums, the loop's two bounds, and chunk 0 fetched. -/
abbrev Done1 (r : Σ' (_ : IVec S16 32) (_ : IVec S16 32) (_ : IVec S16 32) (_ : IVec S16 32) (_ : IVec S16 32) (_ : IVec S16 32) (_ : IVec S16 32) (_ : IVec S16 32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : BitVec 32), BitVec 32) : sProp 𝕄 :=
  iprop(⌜AllRows r.1 r.2.1 r.2.2.1 r.2.2.2.1 r.2.2.2.2.1 r.2.2.2.2.2.1 r.2.2.2.2.2.2.1 r.2.2.2.2.2.2.2.1
      ∧ (r.2.2.2.2.2.2.2.2.1, r.2.2.2.2.2.2.2.2.2.1, r.2.2.2.2.2.2.2.2.2.2.1, r.2.2.2.2.2.2.2.2.2.2.2.1, r.2.2.2.2.2.2.2.2.2.2.2.2.1, r.2.2.2.2.2.2.2.2.2.2.2.2.2.1, r.2.2.2.2.2.2.2.2.2.2.2.2.2.2.1, r.2.2.2.2.2.2.2.2.2.2.2.2.2.2.2.1) = carries x (row0 (cL L) (iL L)) (512 * 0) 0
      ∧ r.2.2.2.2.2.2.2.2.2.2.2.2.2.2.2.2.1 = 0#32 ∧ r.2.2.2.2.2.2.2.2.2.2.2.2.2.2.2.2.2 = 512#32⌝ ∗ Ld d L x o O 0)

/-- The first part: the row numbers, the zero sums and the fetch of chunk 0. -/
theorem part1 : St d L x o O 0 ⊢ run d L (k0_part1 L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) (Done1 d L x o O) := by
  unfold k0_part1
  refine fetch_issue d L x o O 0 rfl (k0_off1_eq L) cc0_scoped0.sem rfl ?_
  refine fetch_wait d L x o O 0 rfl cc0_scoped0.sem rfl ?_
  refine pure_step d L _ ?_
  iintro H
  isplitr
  · ipureintro
    exact ⟨⟨rows_iota 0 (by decide) rfl, rows_iota 1 (by decide) rfl, rows_iota 2 (by decide) rfl, rows_iota 3 (by decide) rfl,
      rows_iota 4 (by decide) rfl, rows_iota 5 (by decide) rfl, rows_iota 6 (by decide) rfl, rows_iota 7 (by decide) rfl⟩, rfl, rfl, rfl⟩
  · iexact H

/-- A part followed by the rest. -/
theorem bind_step {α β : Type} {P : sProp 𝕄} {R : β → sProp 𝕄} {Q : α → sProp 𝕄} {p : Prog (TpuEff nD τ sig (Elt F) Λ₀ (.scVector (cV L) (jV L))) β}
    {g : β → Prog (TpuEff nD τ sig (Elt F) Λ₀ (.scVector (cV L) (jV L))) α} (hp : P ⊢ run d L p R) (hg : ∀ r, R r ⊢ run d L (g r) Q) :
    P ⊢ run d L (p >>= g) Q := by
  simp only [run, wp_bind]
  exact hp.trans (wp_mono _ _ _ hg)

/-- A fact a part leaves is at hand in the rest. -/
theorem of_fact {φ : Prop} {st X : sProp 𝕄} (h : φ → st ⊢ X) : iprop(⌜φ⌝ ∗ st) ⊢ X := by
  iintro ⟨%hφ, H⟩
  iapply (h hφ); iexact H

/-- The whole body: the tile's rows of the result end at the running sums. -/
theorem body_run : St d L x o O 0 ⊢ run d L (cc0__cumsum_body L xV (Memref.isWhole_whole _) oV (Memref.isWhole_whole _) sB (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) (fun _ => St d L x o O 16) := by
  unfold cc0__cumsum_body
  refine bind_step d L (part1 d L x o O) ?_
  rintro ⟨v5, v7, v9, v11, v13, v15, v17, v19, c0, c1, c2, c3, c4, c5, c6, c7, b0, b1⟩
  refine of_fact fun ⟨hv, hc, hb0, hb1⟩ => ?_
  dsimp only at hv hc hb0 hb1
  subst hb0 hb1
  refine bind_step d L (part2 d L x o O v5 v7 v9 v11 v13 v15 v17 v19 hv _ _ _ _ _ _ _ _ hc) ?_
  clear hc
  rintro ⟨c0, c1, c2, c3, c4, c5, c6, c7⟩
  refine of_fact fun hc => ?_
  refine bind_step d L (part3 d L x o O v5 v7 v9 v11 v13 v15 v17 v19 hv _ _ _ _ _ _ _ _ hc) ?_
  clear hc
  rintro ⟨c0, c1, c2, c3, c4, c5, c6, c7⟩
  refine of_fact fun hc => ?_
  refine bind_step d L (part4 d L x o O v5 v7 v9 v11 v13 v15 v17 v19 hv _ _ _ _ _ _ _ _ hc) ?_
  clear hc
  rintro ⟨c0, c1, c2, c3, c4, c5, c6, c7⟩
  refine of_fact fun hc => ?_
  refine bind_step d L (part5 d L x o O v5 v7 v9 v11 v13 v15 v17 v19 hv _ _ _ _ _ _ _ _ hc) ?_
  clear hc
  rintro ⟨c0, c1, c2, c3, c4, c5, c6, c7⟩
  refine of_fact fun hc => ?_
  refine bind_step d L (part6 d L x o O v5 v7 v9 v11 v13 v15 v17 v19 hv _ _ _ _ _ _ _ _ hc) ?_
  clear hc
  rintro ⟨c0, c1, c2, c3, c4, c5, c6, c7⟩
  refine of_fact fun hc => ?_
  refine bind_step d L (part7 d L x o O v5 v7 v9 v11 v13 v15 v17 v19 hv _ _ _ _ _ _ _ _ hc) ?_
  clear hc
  rintro ⟨c0, c1, c2, c3, c4, c5, c6, c7⟩
  refine of_fact fun hc => ?_
  refine fetch_wait d L x o O 14 rfl cc0_scoped28.sem rfl ?_
  refine loop_step d L x _ (512 * 14) v5 v7 v9 v11 v13 v15 v17 v19 hv (k0_chk15 v5 v7 v9 v11 v13 v15 v17 v19) (k0_chk15.dec v5 v7 v9 v11 v13 v15 v17 v19)
    (fun _ h => h) (fun _ h => h) (hc.trans (carries_next x _ 13)) (fun _ _ => rfl) ?_
  refine chunk_step d L x o O 14 (by decide) v5 v7 v9 v11 v13 v15 v17 v19 hv (k0_chk16 v5 v7 v9 v11 v13 v15 v17 v19) (k0_chk16.dec v5 v7 v9 v11 v13 v15 v17 v19)
    (fun _ h => h) (fun _ h => h) (k0_off16_eq L) (k0_off17_eq L) cc0_scoped29.sem cc0_scoped30.sem rfl rfl rfl (fun _ _ => rfl) ?_
  refine write_out d L x o O 15 rfl rfl (k0_off17_eq L) cc0_scoped31.sem rfl ?_
  exact pure_step d L _ (Entails.refl _)

end Tile

end Cert.Proof.KernelIdeal

end
-- ==== Proof.KernelIdealLaunch.lean ====
/-
  The launch of the kernel: the one SparseCore call takes the two arrays whole, each core the blocks of its sixteen tiles, each tile the sixteen
  blocks of its 128 rows (`P`); a tile meets its obligation by `body_run` (`tile_body`, `tileObl`); the blocks of all tiles are the arrays
  (`pts_blocks`). `run_main` is the whole program: the result ends at the running sums of the argument, the argument unchanged, every semaphore zero.
-/
module

public import proofs.«01_k».proof.Proof.KernelIdealTile

@[expose] public section

noncomputable section

namespace Cert.Proof.KernelIdeal

open Cert.KernelIdeal Cert.KernelIdeal.Gen Cert.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4096x8192 EltTy.f32)
local notation "oV" => (Memref.whole Cert.KernelIdeal.main_v0_scv : Memref Cert.KernelIdeal.sig Kind.scVector Space.hbm Cert.KernelIdeal.S4096x8192 EltTy.f32)
local notation "sB" => (Memref.whole Cert.KernelIdeal.cc0_scratch0 : Memref Cert.KernelIdeal.sig Kind.scVector Space.vmem Cert.KernelIdeal.S128x512 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

/-- The launch takes two cores. -/
theorem nCore_zero : (K (F := F)).nCore 0 = 2 := rfl
/-- The launch takes sixteen subcores of each core. -/
theorem nSub_zero : (K (F := F)).nSub 0 = 16 := rfl

/-- The semaphores and buffers that the launch uses are apart and scoped as the launch rule asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## What the handshakes carry -/

/-- The sixteen blocks of one tile of an array, at `f`. -/
abbrev xTile (d : Dev nD) (c : Fin 2) (i : Fin 16) (f : Vec F SA .f32) : sProp 𝕄 := bigSep Finset.univ fun k : Fin 16 => xLoc d ↦[blkSet c i k]{fullShare} f
abbrev oTile (d : Dev nD) (c : Fin 2) (i : Fin 16) (f : Vec F SA .f32) : sProp 𝕄 := bigSep Finset.univ fun k : Fin 16 => oLoc d ↦[blkSet c i k]{fullShare} f

/-- One tile's blocks of the argument and of the result, the result at `f`. -/
abbrev tile (d : Dev nD) (c : Fin 2) (i : Fin 16) (f : Vec F SA .f32) : sProp 𝕄 := iprop(xTile d c i (m (xLoc d)) ∗ oTile d c i f)
/-- One core's: its sixteen tiles'. -/
abbrev core (d : Dev nD) (c : Fin 2) (f : Vec F SA .f32) : sProp 𝕄 := bigSep Finset.univ fun i : Fin 16 => tile m d c i f

/-- The one call takes the two arrays by core, each core's by tile, and brings them back, the result at the running sums of the argument. -/
def P : (K (F := F)).Pay (nD := nD) (Val := Elt F) (Name := ℕ) (U := UU) where
  st := fun q d c => match q with | 0 => core m d (Fin.cast nCore_zero c) (m (oLoc d))
  dn := fun q d c => match q with | 0 => core m d (Fin.cast nCore_zero c) (sums (m (xLoc d)))
  go := fun q d c i => match q with | 0 => tile m d (Fin.cast nCore_zero c) (Fin.cast nSub_zero i) (m (oLoc d))
  td := fun q d c i => match q with | 0 => tile m d (Fin.cast nCore_zero c) (Fin.cast nSub_zero i) (sums (m (xLoc d)))
  x := fun _ _ => iprop(emp)

/-- What a tile holds may be stored in an invariant. -/
theorem tile_storable (d : Dev nD) (c : Fin 2) (i : Fin 16) (f : Vec F SA .f32) : BI.Storable (upEmb : UEmb _ 𝕄) (tile m d c i f) := inferInstance
/-- What a core holds may be stored in an invariant. -/
theorem core_storable (d : Dev nD) (c : Fin 2) (f : Vec F SA .f32) : BI.Storable (upEmb : UEmb _ 𝕄) (core m d c f) := inferInstance

instance P_storable : (P (F := F) m).IsStorable where
  st q d c := match q with | 0 => core_storable m d (Fin.cast nCore_zero c) _
  dn q d c := match q with | 0 => core_storable m d (Fin.cast nCore_zero c) _
  go q d c i := match q with | 0 => tile_storable m d (Fin.cast nCore_zero c) (Fin.cast nSub_zero i) _
  td q d c i := match q with | 0 => tile_storable m d (Fin.cast nCore_zero c) (Fin.cast nSub_zero i) _

/-! ## The tile -/

section Tile

variable (d : Dev nD) (L : grid0.Coords)

/-- The tile's own buffers are the one its body uses, at some contents, and the rest. -/
theorem ownBufs_V :
    (ownBufs (V d (cV L) (jV L)) : sProp 𝕄)
      = iprop((∃ f, buf d L f) ∗ bigSep ((ownRefs (τ := τ) (.scVector (cV L) (jV L))).erase ((Proc.scVector (cV L) (jV L)).devRef cc0_scratch0))
          fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

/-- Before the first chunk no block of the result is written. -/
theorem oAll_zero (x o : Vec F SA .f32) : oAll d L x o 0 = oTile d (cL L) (iL L) o := bigSep_congr fun k _ => by rw [if_neg (Nat.not_lt_zero _)]
/-- With all sixteen chunks written, the tile's part of the result holds the running sums. -/
theorem oAll_last (x o : Vec F SA .f32) : oAll d L x o 16 = oTile d (cL L) (iL L) (sums x) := bigSep_congr fun k _ => by rw [if_pos k.isLt]

/-- The task of one tile: from its blocks of the two arrays to the same with the result's at the running sums. -/
theorem tile_body (hF : (K (F := F)).Facts) (O : CellTallies nD τ sig (HIx 1)) (W : Waits sig (HIx 1)) (hO : ∀ g, O g none = 0) :
    iprop(levAts (K (F := F)).L (K (F := F)).lev ∗ emp ∗ tile m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__cumsum_body L xV (Memref.isWhole_whole _) oV (Memref.isWhole_whole _) sB (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31)
          fun _ => iprop(tile m d (cL L) (iL L) (sums (m (xLoc d)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownBufs_V]
  iintro ⟨#Hlv, -, ⟨Hx, Ho⟩, ⟨Hb, Hbufs⟩, Hs, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply wp_wand_r
  isplitl [Hmw Hx Ho Hb Hs HO]
  · iapply (body_run d L (m (xLoc d)) (m (oLoc d)) O)
    isplitl [Hb]; · iexact Hb
    isplitl [Hmw]; · iexact Hmw
    isplitl [Hx]; · iexact Hx
    isplitl [Ho]
    · iapply (Entails.of_eq (oAll_zero d L (m (xLoc d)) (m (oLoc d))).symm); iexact Ho
    isplitl [Hs]; · iexact Hs
    iexists _; iexact HO
  iintro %_ ⟨Hb, -, Hx, Ho, Hs, ⟨%W', HO⟩⟩
  isplitl [Hx Ho]
  · isplitl [Hx]; · iexact Hx
    iapply (Entails.of_eq (oAll_last d L (m (xLoc d)) (m (oLoc d)))); iexact Ho
  isplitl [Hb Hbufs]
  · isplitl [Hb] <;> iassumption
  isplitl [Hs]; · iexact Hs
  iexists _; isplitr
  swap; · iexact HO
  ipureintro; intro p _
  rcases p.2 with _ | q
  · exact .inr (.inl rfl)
  · exact .inr (.inr (congrArg some (Subsingleton.elim q 0)))

/-- The coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The program of a vector subcore is the body of its tile. -/
theorem defs₀_vector (c : Fin τ.nSC) (s : Fin τ.nSub) :
    defs₀ (F := F) (.scVector c s) 0 ()
      = SparseCore.onTile hcore0 hsub0 (fun c s => cc0__cumsum_body (coordsV c s) xV (Memref.isWhole_whole _) oV (Memref.isWhole_whole _) sB (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31) ⟨⟩ c s := rfl

/-- Every tile fulfils what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The arrays by core, tile and chunk -/

/-- A block's number and its set, over all cores, tiles and chunks. -/
abbrev IB : Type := Fin 2 × Fin 16 × Fin 16
abbrev setB (b : IB) : Finset S4096x8192.Idx := blkSet b.1 b.2.1 b.2.2

/-- Two different blocks of the array have no element in common. -/
theorem blocks_disjoint : ∀ a ∈ (Finset.univ : Finset IB), ∀ b ∈ (Finset.univ : Finset IB), a ≠ b → Disjoint (setB a) (setB b) := by
  rintro ⟨c, i, k⟩ - ⟨c', i', k'⟩ - h
  by_cases hk : k.val = k'.val
  · refine Rect.unit_disjoint 0 ?_
    have : ¬ (256 * i.val + 128 * c.val = 256 * i'.val + 128 * c'.val) := fun e =>
      h (by rw [Prod.mk.injEq, Prod.mk.injEq]; refine ⟨Fin.ext ?_, Fin.ext ?_, Fin.ext hk⟩ <;> omega)
    show 256 * i.val + 128 * c.val + 128 ≤ 256 * i'.val + 128 * c'.val ∨ 256 * i'.val + 128 * c'.val + 128 ≤ 256 * i.val + 128 * c.val
    omega
  · refine Rect.unit_disjoint 1 ?_
    show 512 * k.val + 512 ≤ 512 * k'.val ∨ 512 * k'.val + 512 ≤ 512 * k.val
    omega

/-- The blocks together are the whole array. -/
theorem blocks_cover : (Finset.univ : Finset IB).biUnion setB = Finset.univ := by
  refine Finset.eq_univ_of_forall fun j => Finset.mem_biUnion.mpr ?_
  have h0 : (j 0).val < 4096 := (j 0).isLt
  have h1 : (j 1).val < 8192 := (j 1).isLt
  refine ⟨(⟨(j 0).val / 128 % 2, by omega⟩, ⟨(j 0).val / 256, by omega⟩, ⟨(j 1).val / 512, by omega⟩), Finset.mem_univ _, Rect.mem_set_unit.mpr fun a => ?_⟩
  match a with
  | 0 =>
    show 256 * ((j 0).val / 256) + 128 * ((j 0).val / 128 % 2) ≤ (j 0).val ∧ (j 0).val < 256 * ((j 0).val / 256) + 128 * ((j 0).val / 128 % 2) + 128
    omega
  | 1 =>
    show 512 * ((j 1).val / 512) ≤ (j 1).val ∧ (j 1).val < 512 * ((j 1).val / 512) + 512
    omega

/-- Owning the argument is owning each tile's part of it. -/
theorem x_blocks (d : Dev nD) (f : Vec F SA .f32) :
    (xLoc d ↦{fullShare} f : sProp 𝕄) = bigSep Finset.univ fun c : Fin 2 => bigSep Finset.univ fun i : Fin 16 => xTile d c i f := by
  have e : (xLoc d ↦{fullShare} f : sProp 𝕄) = bigSep (Finset.univ : Finset IB) fun b => xLoc d ↦[setB b]{fullShare} f := by
    rw [← pointsTo_biUnion Finset.univ (ℓ := xLoc d) setB blocks_disjoint, blocks_cover]
  rw [e, BI.bigSep_univ_prod]
  exact bigSep_congr fun c _ => BI.bigSep_univ_prod _

/-- Owning the result is owning each tile's part of it. -/
theorem o_blocks (d : Dev nD) (f : Vec F SA .f32) :
    (oLoc d ↦{fullShare} f : sProp 𝕄) = bigSep Finset.univ fun c : Fin 2 => bigSep Finset.univ fun i : Fin 16 => oTile d c i f := by
  have e : (oLoc d ↦{fullShare} f : sProp 𝕄) = bigSep (Finset.univ : Finset IB) fun b => oLoc d ↦[setB b]{fullShare} f := by
    rw [← pointsTo_biUnion Finset.univ (ℓ := oLoc d) setB blocks_disjoint, blocks_cover]
  rw [e, BI.bigSep_univ_prod]
  exact bigSep_congr fun c _ => BI.bigSep_univ_prod _

/-- The two arrays whole are the two cores' shares of them. -/
theorem pts_blocks (d : Dev nD) (f : Vec F SA .f32) :
    iprop((xLoc d ↦{fullShare} m (xLoc d)) ∗ oLoc d ↦{fullShare} f) = (bigSep Finset.univ fun c : Fin 2 => core m d c f : sProp 𝕄) := by
  rw [x_blocks d (m (xLoc d)), o_blocks d f, ← bigSep_sep']
  exact bigSep_congr fun c _ => (bigSep_sep' _ _ _).symm

/-- The launch's product over subcores is the product over sixteen numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The launch's product over cores is the product over two numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share is its tiles', given out and taken back. -/
theorem vecSplit : (K (F := F)).VecSplit' (P m) 0 := by
  intro d c
  show core m d (Fin.cast nCore_zero c) (m (oLoc d)) ⊢ |={Set.univ}=> iprop(
      (bigSep Finset.univ fun i : Fin ((K (F := F)).nSub 0) => tile m d (Fin.cast nCore_zero c) (Fin.cast nSub_zero i) (m (oLoc d)))
      ∗ ((bigSep Finset.univ fun i : Fin ((K (F := F)).nSub 0) => tile m d (Fin.cast nCore_zero c) (Fin.cast nSub_zero i) (sums (m (xLoc d))))
          -∗ core m d (Fin.cast nCore_zero c) (sums (m (xLoc d)))))
  rw [bigSep_tasks (F := F) (fun i => tile m d (Fin.cast nCore_zero c) i (m (oLoc d))),
    bigSep_tasks (F := F) (fun i => tile m d (Fin.cast nCore_zero c) i (sums (m (xLoc d))))]
  iintro H; imodintro
  isplitl [H]; · iexact H
  iintro H; iexact H

/-! ## The launch element -/

def u₀ : UU := (initOf (K (F := F)).hsCells (K (F := F)).hsToks, 1)

/-- A product of nothing is nothing. -/
theorem bigSep_emp' {I : Type} (s : Finset I) : (bigSep s fun _ => iprop(emp)) = (iprop(emp) : sProp 𝕄) := bigSep_emp_const s

/-- The starting ghost state gives the launch its handshakes and each thread its part, which is empty. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The host's buffers are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the cores get at the launch is the argument and the result as they were. -/
theorem st0_eq (d : Dev nD) :
    (bigSep Finset.univ fun c : Fin ((K (F := F)).nCore 0) => (P m).st 0 d c) = iprop((xLoc d ↦{fullShare} m (xLoc d)) ∗ oLoc d ↦{fullShare} m (oLoc d)) :=
  (bigSep_cores (F := F) fun c => core m d c (m (oLoc d))).trans (pts_blocks m d (m (oLoc d))).symm
/-- What the cores give back is the argument as it was and the result at the running sums. -/
theorem dn0_eq (d : Dev nD) :
    (bigSep Finset.univ fun c : Fin ((K (F := F)).nCore 0) => (P m).dn 0 d c) = iprop((xLoc d ↦{fullShare} m (xLoc d)) ∗ oLoc d ↦{fullShare} sums (m (xLoc d))) :=
  (bigSep_cores (F := F) fun c => core m d c (sums (m (xLoc d)))).trans (pts_blocks m d (sums (m (xLoc d)))).symm

/-- What @main keeps to the end: the argument as it was and the result at its running sums. -/
abbrev FIN (d : Dev nD) : sProp 𝕄 := iprop((xLoc d ↦{fullShare} m (xLoc d)) ∗ oLoc d ↦{fullShare} sums (m (xLoc d)))

/-- The host's thread launches the kernel and ends with the argument as it was and the result at the running sums. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxo, Hts, -⟩, -⟩
  iapply ((K (F := F)).wp_run (D (F := F)) 𝒱 (EH := EH) (P := P m) κ d 0) $$ [Hst Hxo Hb Hts]
  isplitr; · iexact Hctx
  isplitl [Hst]; · iexact Hst
  isplitl [Hxo]
  · rw [st0_eq]; iexact Hxo
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ s'.mem.mem (oLoc d) = sums (m (xLoc d))

/-- What the host ends with fixes the final memory. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := sums (m (xLoc d)))) $$ [HSI Ho]
  · isplitl [HSI] <;> iassumption
  icases H with %ho
  ipureintro; exact ⟨funext fun i => hx i (Finset.mem_univ i), funext fun i => ho i (Finset.mem_univ i)⟩

/-! ## The program's run -/

/-- At the end the argument is as it was, the result is its running sums, and every semaphore is zero. -/
def QC : PUnit × MemSt nD τ sig (Elt F) → Prop := fun r => (∀ c : Dev nD, r.2.mem (xLoc c) = m (xLoc c) ∧ r.2.mem (oLoc c) = sums (m (xLoc c))) ∧ r.2.sem = fun _ => 0

/-- The whole program, from any memory with the semaphores zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.ReferenceSums.lean ====
/-
  The reference's window sum is the array of running sums. The reference sums, at each position, a window of 8192 elements of the row padded
  with 8191 zeros on its left; over the exact values the padding adds nothing, and what is left is the row's elements up to the position,
  added from the left (`window_sums`).
-/
module

public import proofs.«01_k».proof.Proof.Sweep
public import proofs.«01_k».proof.Proof.Gen.ReferenceIdeal.Run

@[expose] public section

noncomputable section

namespace Cert.Proof.ReferenceSums

open Cert.ReferenceIdeal Cert.ReferenceIdeal.Gen Cert.Sweep Idealize.ShloMosaic

/-- A left fold over the first `n` numbers is any sequence that starts at the fold's start and takes its steps. -/
theorem fold_eq {α : Type} (n : ℕ) (f : α → Fin n → α) (G : ℕ → α) (h : ∀ k : Fin n, f (G k.val) k = G (k.val + 1)) :
    (List.finRange n).foldl f (G 0) = G n := by
  induction n with
  | zero => rfl
  | succ n ih =>
    rw [List.finRange_succ_last, List.foldl_append, List.foldl_map, ih (fun a k => f a k.castSucc) (fun k => h k.castSucc)]
    exact h (Fin.last n)

/-- The float zero is the number zero. -/
theorem zero_eq : (Scalar.ofBits (F := Ideal) .f32 0x00000000#32 : Ideal .f32) = (0 : EReal) := by
  show Ideal.ofBits .f32 0x00000000#32 = 0
  simp [Ideal.ofBits, Ideal.ieee]

/-- The window's shape: one row of 8192. -/
abbrev W : Shape := ⟨2, ![1, 8192]⟩

/-- Position `n` of the window is column `n` of its one row. -/
theorem window_at (n : Fin W.numel) : (W.rowMajor.symm n 0).val = 0 ∧ (W.rowMajor.symm n 1).val = n.val := by
  have h := Shape.rowMajor_val_two (W.rowMajor.symm n)
  rw [Equiv.apply_symm_apply] at h
  have h0 : (W.rowMajor.symm n 0).val < 1 := (W.rowMajor.symm n 0).isLt
  have h1 : (![1, 8192] : Fin 2 → ℕ) 1 = 8192 := rfl
  rw [h1] at h
  omega

/-- The window has 8192 positions. -/
theorem window_numel : W.numel = 8192 := by decide

/-- What the window of position `(r, c)` adds at its position `n`: the row's element `c + n - 8191`, or zero where that is padding. -/
abbrev term (x : Vec Ideal SA .f32) (j : SA.Idx) (z : EReal) (n : Fin W.numel) : EReal :=
  let p : Fin 2 → ℕ := fun a => (j a).val * (![1, 1] : Fin 2 → ℕ) a + (W.rowMajor.symm n a).val
  if hin : ∀ a, (![0, 8191] : Fin 2 → ℕ) a ≤ p a ∧ p a - (![0, 8191] : Fin 2 → ℕ) a < SA.size a then
    x (fun a => ⟨p a - (![0, 8191] : Fin 2 → ℕ) a, (hin a).2⟩) else z

/-- On the padding the window adds the padding value `z`. -/
theorem term_pad (x : Vec Ideal SA .f32) (j : SA.Idx) (z : EReal) (n : Fin W.numel) (h : (j 1).val + n.val < 8191) : term x j z n = z := by
  refine dif_neg fun hin => ?_
  have h1 : 8191 ≤ (j 1).val * 1 + (W.rowMajor.symm n 1).val := (hin 1).1
  rw [(window_at n).2] at h1
  omega

/-- Past the padding the window adds the row's element. -/
theorem term_row (x : Vec Ideal SA .f32) (j : SA.Idx) (z : EReal) (n : Fin W.numel) (h : 8191 ≤ (j 1).val + n.val) :
    term x j z n = at2 x (j 0).val ((j 1).val + n.val - 8191) := by
  have hj0 : (j 0).val < 4096 := (j 0).isLt
  have hj1 : (j 1).val < 8192 := (j 1).isLt
  have hn : n.val < 8192 := lt_of_lt_of_eq n.isLt window_numel
  obtain ⟨w0, w1⟩ := window_at n
  have e0 : (j 0).val * 1 + (W.rowMajor.symm n 0).val - 0 = (j 0).val := by rw [w0]; omega
  have e1 : (j 1).val * 1 + (W.rowMajor.symm n 1).val - 8191 = (j 1).val + n.val - 8191 := by rw [w1]; omega
  have hin : ∀ a, (![0, 8191] : Fin 2 → ℕ) a ≤ (j a).val * (![1, 1] : Fin 2 → ℕ) a + (W.rowMajor.symm n a).val
      ∧ (j a).val * (![1, 1] : Fin 2 → ℕ) a + (W.rowMajor.symm n a).val - (![0, 8191] : Fin 2 → ℕ) a < SA.size a := by
    intro a
    match a with
    | 0 => exact ⟨Nat.zero_le _, lt_of_eq_of_lt e0 hj0⟩
    | 1 =>
      refine ⟨?_, lt_of_eq_of_lt e1 (show (j 1).val + n.val - 8191 < 8192 by omega)⟩
      show 8191 ≤ (j 1).val * 1 + (W.rowMajor.symm n 1).val
      rw [w1]; omega
  refine (dif_pos hin).trans ((at2_self x _).symm.trans ?_)
  exact congrArg₂ (at2 x) e0 e1

/-- Summing the window in order gives the row's sum up to the position: the padding adds nothing. -/
theorem window_fold (x : Vec Ideal SA .f32) (j : SA.Idx) :
    (List.finRange W.numel).foldl (fun r n => r + term x j (Scalar.ofBits (F := Ideal) .f32 0x00000000#32) n) (Scalar.ofBits (F := Ideal) .f32 0x00000000#32 : Ideal .f32)
      = acc x (j 0).val ((j 1).val + 1) := by
  have hj1 : (j 1).val < 8192 := (j 1).isLt
  have key := fold_eq W.numel (fun (r : EReal) n => r + term x j (Scalar.ofBits (F := Ideal) .f32 0x00000000#32) n)
    (fun k => acc x (j 0).val ((j 1).val + k - 8191)) fun k => by
      by_cases hc : 8191 ≤ (j 1).val + k.val
      · rw [term_row x j _ k hc, show (j 1).val + (k.val + 1) - 8191 = (j 1).val + k.val - 8191 + 1 by omega]
        rfl
      · rw [term_pad x j _ k (by omega), zero_eq, add_zero, show (j 1).val + (k.val + 1) - 8191 = (j 1).val + k.val - 8191 by omega]
  rw [show (j 1).val + 0 - 8191 = 0 by omega, show (j 1).val + W.numel - 8191 = (j 1).val + 1 by rw [window_numel]; omega] at key
  exact key

/-- Left folds with equal starts and equal steps are equal. -/
theorem foldl_congr {α β : Type} (l : List β) {f g : α → β → α} {a b : α} (h : a = b) (hf : ∀ r n, f r n = g r n) : l.foldl f a = l.foldl g b := by
  subst h
  exact congrArg (fun f => l.foldl f a) (funext fun r => funext fun n => hf r n)

/-- The reference's result is the running sums of its argument. -/
theorem window_sums (x : Vec Ideal SA .f32) :
    (Host.reduceWindowAdd (F := Ideal) ![1, 8192] ![1, 1] ![0, 8191] ![0, 0] x (broadcastInDim S_ ![] bcast_S_S_ (constant S_ .f32 0x00000000#32))
      reduceWindows_S4096x8192_S4096x8192_w1s1p0_0_w8192s1p8191_0 h_S_ : Vec Ideal SA .f32) = sums x :=
  funext fun j => by
    refine Eq.trans ?_ (window_fold x j)
    unfold Host.reduceWindowAdd
    rw [Ideal.hostReduceWindowAdd_def]
    unfold Ideal.hostReduceWindowAdd Host.reduceWindow
    refine foldl_congr _ ?_ fun r n => ?_
    · rfl
    · refine congrArg (r + ·) ?_
      by_cases hin : ∀ a : Fin 2, (![0, 8191] : Fin 2 → ℕ) a ≤ (j a).val * (![1, 1] : Fin 2 → ℕ) a + (W.rowMajor.symm n a).val
          ∧ (j a).val * (![1, 1] : Fin 2 → ℕ) a + (W.rowMajor.symm n a).val - (![0, 8191] : Fin 2 → ℕ) a < SA.size a
      · refine (dif_pos hin).trans ?_
        simp only [term]
        rw [dif_pos hin]
        rfl
      · refine (dif_neg hin).trans ?_
        simp only [term]
        rw [dif_neg hin]
        rfl

end Cert.Proof.ReferenceSums

end
-- ==== Proof.lean ====
/-
  The certificate of the running sums along the rows of an f32[4096, 8192] array. Each of the 32 tiles holds 128 rows; chunk by chunk of 512
  columns it fetches its block, sweeps the columns adding each to the rows' sums so far, and writes the block out. Both printed forms of the
  kernel are run by the same argument (KernelLaunch, KernelIdealLaunch: the result ends at `Cert.Sweep.sums` of the argument, whatever the float
  values), and over exact values those sums are what the reference's window sum is (ReferenceSums).
-/
module

public import proofs.«01_k».proof.Proof.KernelLaunch
public import proofs.«01_k».proof.Proof.KernelIdealLaunch
public import proofs.«01_k».proof.Proof.ReferenceSums
public import proofs.«01_k».proof.Proof.Gen.ReferenceIdeal.Run
public import Idealize.ShloMosaic.Lib.Quiescent

@[expose] public section

noncomputable section

namespace Cert.Proof

open Idealize.ShloMosaic Idealize.SL.Sem

/-- The kernel as printed runs, leaves its argument as it was and every semaphore at zero. -/
theorem frame_kernel : Cert.quiescent_Kernel := fun m ρ _ =>
  (θ_run Cert.Kernel.defs _ _).mono (fun _ h => ⟨fun c => (h.1 c).1, h.2⟩) (Kernel.run_main (F := Bits) m ρ)

/-- So does the kernel read over exact values. -/
theorem frame_kernelIdeal : Cert.quiescent_KernelIdeal := fun m ρ _ =>
  (θ_run Cert.KernelIdeal.defs _ _).mono (fun _ h => ⟨fun c => (h.1 c).1, h.2⟩) (KernelIdeal.run_main (F := Ideal) m ρ)

/-- So does the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel and the reference, from equal arguments, both end at the running sums of the argument. -/
theorem algebraic : Cert.algebraic_KernelIdeal_ReferenceIdeal := by
  intro m g m' g' _ hm
  refine ⟨fun c => Cert.Sweep.sums (m (KernelIdeal.xLoc c)), ?_, ?_⟩
  · exact (θ_run Cert.KernelIdeal.defs _ _).mono (fun _ h c => ⟨(h.1 c).2, (h.1 c).1⟩) (KernelIdeal.run_main (F := Ideal) m g)
  · refine (θ_run Cert.ReferenceIdeal.defs _ _).mono (fun _ h c => ⟨(h c).1.trans ?_, (h c).2⟩) (Cert.ReferenceIdeal.Value.run (F := Ideal) m' g')
    rw [hm c]
    exact ReferenceSums.window_sums _

/-- All the certificate claims. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
